-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x4096x1792 : Shape := ⟨3, ![3, 4096, 1792]⟩
abbrev S1792x13184 : Shape := ⟨2, ![1792, 13184]⟩
abbrev S14x103 : Shape := ⟨2, ![14, 103]⟩
abbrev S13184 : Shape := ⟨1, ![13184]⟩
abbrev S_ : Shape := ⟨0, ![]⟩

class Facts : Prop where
  bitsLt_bf16_f32 : FTy.bits .bf16 < FTy.bits .f32
  bcast_S_S3x4096x1792 : S_.BroadcastsInDim S3x4096x1792 (![] : Fin 0 → Fin S3x4096x1792.rank)

variable [Facts]

def fn {F : FTy → Type} [FloatOps F] (main_arg0 : FVec F S3x4096x1792 .bf16) (main_arg1 : FVec F S1792x13184 .fp8e4m3) (main_arg2 : FVec F S14x103 .f32) (main_arg3 : FVec F S13184 .f32) : IVec S3x4096x1792 1 :=
  let main_v0 : FVec F S3x4096x1792 .f32 := (extf .f32 · bitsLt_bf16_f32) main_arg0
  let main_v1 : FVec F S3x4096x1792 .f32 := Host.absf main_v0
  let main_cst : FVec F S_ .f32 := constant S_ .f32 0x7F7F0000#32
  let main_v2 : FVec F S3x4096x1792 .f32 := broadcastInDim S3x4096x1792 ![] bcast_S_S3x4096x1792 main_cst
  let main_v3 : IVec S3x4096x1792 1 := cmpf .ole main_v1 main_v2
  main_v3
-- ==== Kernel.lean ====
abbrev S3x4096x1792 : Shape := ⟨3, ![3, 4096, 1792]⟩
abbrev S1792x13184 : Shape := ⟨2, ![1792, 13184]⟩
abbrev S14x103 : Shape := ⟨2, ![14, 103]⟩
abbrev S13184 : Shape := ⟨1, ![13184]⟩
abbrev S12288x1792 : Shape := ⟨2, ![12288, 1792]⟩
abbrev S14x103x128 : Shape := ⟨3, ![14, 103, 128]⟩
abbrev S14x13184 : Shape := ⟨2, ![14, 13184]⟩
abbrev S1x13184 : Shape := ⟨2, ![1, 13184]⟩
abbrev S12288x13184 : Shape := ⟨2, ![12288, 13184]⟩
abbrev S12288x14 : Shape := ⟨2, ![12288, 14]⟩
abbrev S256x1792 : Shape := ⟨2, ![256, 1792]⟩
abbrev S256x13184 : Shape := ⟨2, ![256, 13184]⟩
abbrev S256x14 : Shape := ⟨2, ![256, 14]⟩
abbrev S14x256x128 : Shape := ⟨3, ![14, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩
abbrev S128x256 : Shape := ⟨2, ![128, 256]⟩
abbrev S1x256 : Shape := ⟨2, ![1, 256]⟩
abbrev S128x128 : Shape := ⟨2, ![128, 128]⟩
abbrev S1x128 : Shape := ⟨2, ![1, 128]⟩

abbrev nBuf : Space → Nat
  | .hbm => 11
  | .vmem => 12
  | .smem => 0
  | _ => 0

abbrev bufTy : (tb : Table) → Fin (tcTables nBuf tb) → BufTy
  | .hbm, ⟨0, _⟩ => ⟨S3x4096x1792, .bf16⟩
  | .hbm, ⟨1, _⟩ => ⟨S1792x13184, .fp8e4m3⟩
  | .hbm, ⟨2, _⟩ => ⟨S14x103, .f32⟩
  | .hbm, ⟨3, _⟩ => ⟨S13184, .f32⟩
  | .hbm, ⟨4, _⟩ => ⟨S12288x1792, .bf16⟩
  | .hbm, ⟨5, _⟩ => ⟨S14x103x128, .f32⟩
  | .hbm, ⟨6, _⟩ => ⟨S14x13184, .f32⟩
  | .hbm, ⟨7, _⟩ => ⟨S1x13184, .f32⟩
  | .hbm, ⟨8, _⟩ => ⟨S12288x13184, .bf16⟩
  | .hbm, ⟨9, _⟩ => ⟨S12288x1792, .fp8e4m3⟩
  | .hbm, ⟨10, _⟩ => ⟨S12288x14, .f32⟩
  | .local _ .vmem, ⟨0, _⟩ => ⟨S256x1792, .bf16⟩
  | .local _ .vmem, ⟨1, _⟩ => ⟨S256x1792, .bf16⟩
  | .local _ .vmem, ⟨2, _⟩ => ⟨S1792x13184, .fp8e4m3⟩
  | .local _ .vmem, ⟨3, _⟩ => ⟨S14x13184, .f32⟩
  | .local _ .vmem, ⟨4, _⟩ => ⟨S1x13184, .f32⟩
  | .local _ .vmem, ⟨5, _⟩ => ⟨S256x13184, .bf16⟩
  | .local _ .vmem, ⟨6, _⟩ => ⟨S256x13184, .bf16⟩
  | .local _ .vmem, ⟨7, _⟩ => ⟨S256x1792, .fp8e4m3⟩
  | .local _ .vmem, ⟨8, _⟩ => ⟨S256x1792, .fp8e4m3⟩
  | .local _ .vmem, ⟨9, _⟩ => ⟨S256x14, .f32⟩
  | .local _ .vmem, ⟨10, _⟩ => ⟨S256x14, .f32⟩
  | .local _ .vmem, ⟨11, _⟩ => ⟨S14x256x128, .f32⟩
  | _, _ => ⟨S3x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_452 : BitVec 32 := 0#32
  let c51_i32 : BitVec 32 := 51#32
  let v1332 : BitVec 32 := Scalar.addi c0_i32_452 c51_i32
  let c1_i32_453 : BitVec 32 := 1#32
  ⟨c0_i32_452, v1332, c1_i32_453⟩
def k0_mult1 (k0_t1 : Fin k0_t1_loop.trips) : BitVec 32 :=
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  v1508
def k0_off1 (k0_t1 : Fin k0_t1_loop.trips) : Fin 2 → Nat :=
  let c0_602 : Index := 0#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1513 : Index := Scalar.indexCast v1509
  ![0, v1513.toNat]
def k0_off2 (k0_t1 : Fin k0_t1_loop.trips) : Fin 2 → Nat :=
  let c0_607 : Index := 0#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1520 : Index := Scalar.indexCast v1509
  ![0, v1520.toNat]
def k0_off3 (k0_t1 : Fin k0_t1_loop.trips) : Fin 2 → Nat :=
  let c128_610 : Index := 128#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1528 : Index := Scalar.indexCast v1509
  ![128, v1528.toNat]
def k0_off4 (k0_t1 : Fin k0_t1_loop.trips) : Fin 2 → Nat :=
  let c1_615 : Index := 1#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1535 : Index := Scalar.indexCast v1509
  ![1, v1535.toNat]
def k0_off5 (k0_t1 : Fin k0_t1_loop.trips) : Fin 2 → Nat :=
  let c256_618 : Index := 256#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1543 : Index := Scalar.indexCast v1509
  ![256, v1543.toNat]
def k0_off6 (k0_t1 : Fin k0_t1_loop.trips) : Fin 2 → Nat :=
  let c2_623 : Index := 2#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1550 : Index := Scalar.indexCast v1509
  ![2, v1550.toNat]
def k0_off7 (k0_t1 : Fin k0_t1_loop.trips) : Fin 2 → Nat :=
  let c384_626 : Index := 384#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1558 : Index := Scalar.indexCast v1509
  ![384, v1558.toNat]
def k0_off8 (k0_t1 : Fin k0_t1_loop.trips) : Fin 2 → Nat :=
  let c3_631 : Index := 3#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1565 : Index := Scalar.indexCast v1509
  ![3, v1565.toNat]
def k0_off9 (k0_t1 : Fin k0_t1_loop.trips) : Fin 2 → Nat :=
  let c512_634 : Index := 512#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1573 : Index := Scalar.indexCast v1509
  ![512, v1573.toNat]
def k0_off10 (k0_t1 : Fin k0_t1_loop.trips) : Fin 2 → Nat :=
  let c4_639 : Index := 4#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1580 : Index := Scalar.indexCast v1509
  ![4, v1580.toNat]
def k0_off11 (k0_t1 : Fin k0_t1_loop.trips) : Fin 2 → Nat :=
  let c640_642 : Index := 640#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1588 : Index := Scalar.indexCast v1509
  ![640, v1588.toNat]
def k0_off12 (k0_t1 : Fin k0_t1_loop.trips) : Fin 2 → Nat :=
  let c5_647 : Index := 5#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1595 : Index := Scalar.indexCast v1509
  ![5, v1595.toNat]
def k0_off13 (k0_t1 : Fin k0_t1_loop.trips) : Fin 2 → Nat :=
  let c768_650 : Index := 768#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1603 : Index := Scalar.indexCast v1509
  ![768, v1603.toNat]
def k0_off14 (k0_t1 : Fin k0_t1_loop.trips) : Fin 2 → Nat :=
  let c6_655 : Index := 6#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1610 : Index := Scalar.indexCast v1509
  ![6, v1610.toNat]
def k0_off15 (k0_t1 : Fin k0_t1_loop.trips) : Fin 2 → Nat :=
  let c896_658 : Index := 896#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1618 : Index := Scalar.indexCast v1509
  ![896, v1618.toNat]
def k0_off16 (k0_t1 : Fin k0_t1_loop.trips) : Fin 2 → Nat :=
  let c7_663 : Index := 7#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1625 : Index := Scalar.indexCast v1509
  ![7, v1625.toNat]
def k0_off17 (k0_t1 : Fin k0_t1_loop.trips) : Fin 2 → Nat :=
  let c1024_666 : Index := 1024#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1633 : Index := Scalar.indexCast v1509
  ![1024, v1633.toNat]
def k0_off18 (k0_t1 : Fin k0_t1_loop.trips) : Fin 2 → Nat :=
  let c8_671 : Index := 8#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1640 : Index := Scalar.indexCast v1509
  ![8, v1640.toNat]
def k0_off19 (k0_t1 : Fin k0_t1_loop.trips) : Fin 2 → Nat :=
  let c1152_674 : Index := 1152#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1648 : Index := Scalar.indexCast v1509
  ![1152, v1648.toNat]
def k0_off20 (k0_t1 : Fin k0_t1_loop.trips) : Fin 2 → Nat :=
  let c9_679 : Index := 9#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1655 : Index := Scalar.indexCast v1509
  ![9, v1655.toNat]
def k0_off21 (k0_t1 : Fin k0_t1_loop.trips) : Fin 2 → Nat :=
  let c1280_682 : Index := 1280#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1663 : Index := Scalar.indexCast v1509
  ![1280, v1663.toNat]
def k0_off22 (k0_t1 : Fin k0_t1_loop.trips) : Fin 2 → Nat :=
  let c10_687 : Index := 10#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1670 : Index := Scalar.indexCast v1509
  ![10, v1670.toNat]
def k0_off23 (k0_t1 : Fin k0_t1_loop.trips) : Fin 2 → Nat :=
  let c1408_690 : Index := 1408#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1678 : Index := Scalar.indexCast v1509
  ![1408, v1678.toNat]
def k0_off24 (k0_t1 : Fin k0_t1_loop.trips) : Fin 2 → Nat :=
  let c11_695 : Index := 11#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1685 : Index := Scalar.indexCast v1509
  ![11, v1685.toNat]
def k0_off25 (k0_t1 : Fin k0_t1_loop.trips) : Fin 2 → Nat :=
  let c1536_698 : Index := 1536#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1693 : Index := Scalar.indexCast v1509
  ![1536, v1693.toNat]
def k0_off26 (k0_t1 : Fin k0_t1_loop.trips) : Fin 2 → Nat :=
  let c12_703 : Index := 12#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1700 : Index := Scalar.indexCast v1509
  ![12, v1700.toNat]
def k0_off27 (k0_t1 : Fin k0_t1_loop.trips) : Fin 2 → Nat :=
  let c1664_706 : Index := 1664#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1708 : Index := Scalar.indexCast v1509
  ![1664, v1708.toNat]
def k0_off28 (k0_t1 : Fin k0_t1_loop.trips) : Fin 2 → Nat :=
  let c13_711 : Index := 13#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1715 : Index := Scalar.indexCast v1509
  ![13, v1715.toNat]
def k0_off29 (k0_t1 : Fin k0_t1_loop.trips) : Fin 2 → Nat :=
  let c0_712 : Index := 0#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1721 : Index := Scalar.indexCast v1509
  ![0, v1721.toNat]
def k0_off30 (k0_t1 : Fin k0_t1_loop.trips) : Fin 2 → Nat :=
  let c0_713 : Index := 0#32
  let c0_i32_452 : BitVec 32 := 0#32
  let c1_i32_453 : BitVec 32 := 1#32
  let arg9 : BitVec 32 := Scf.iv c0_i32_452 c1_i32_453 k0_t1
  let c256_i32 : BitVec 32 := 256#32
  let v1508 : BitVec 32 := Scalar.muli arg9 c256_i32
  let v1509 : BitVec 32 := v1508
  let v1727 : Index := Scalar.indexCast v1509
  ![0, v1727.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x13184 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S14x13184 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x13184 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x13184 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x4096x1792 : Shape := ⟨3, ![3, 4096, 1792]⟩
abbrev S1792x13184 : Shape := ⟨2, ![1792, 13184]⟩
abbrev S14x103 : Shape := ⟨2, ![14, 103]⟩
abbrev S13184 : Shape := ⟨1, ![13184]⟩
abbrev S12288x14x128 : Shape := ⟨3, ![12288, 14, 128]⟩
abbrev S14x128x13184 : Shape := ⟨3, ![14, 128, 13184]⟩
abbrev S14x103x128 : Shape := ⟨3, ![14, 103, 128]⟩
abbrev S14x13184 : Shape := ⟨2, ![14, 13184]⟩
abbrev S12288x13184 : Shape := ⟨2, ![12288, 13184]⟩
abbrev S12288x1792 : Shape := ⟨2, ![12288, 1792]⟩
abbrev S12288x14 : Shape := ⟨2, ![12288, 14]⟩
abbrev S12288x14x1 : Shape := ⟨3, ![12288, 14, 1]⟩
abbrev S12288x1x128 : Shape := ⟨3, ![12288, 1, 128]⟩
abbrev S12288x128 : Shape := ⟨2, ![12288, 128]⟩
abbrev S1x128x13184 : Shape := ⟨3, ![1, 128, 13184]⟩
abbrev S128x13184 : Shape := ⟨2, ![128, 13184]⟩
abbrev S12288x1 : Shape := ⟨2, ![12288, 1]⟩
abbrev S12288 : Shape := ⟨1, ![12288]⟩
abbrev S1x13184 : Shape := ⟨2, ![1, 13184]⟩

abbrev nBuf : Space → Nat
  | .hbm => 11
  | .vmem => 7
  | .smem => 0
  | _ => 0

abbrev bufTy : (tb : Table) → Fin (tcTables nBuf tb) → BufTy
  | .hbm, ⟨0, _⟩ => ⟨S3x4096x1792, .bf16⟩
  | .hbm, ⟨1, _⟩ => ⟨S1792x13184, .fp8e4m3⟩
  | .hbm, ⟨2, _⟩ => ⟨S14x103, .f32⟩
  | .hbm, ⟨3, _⟩ => ⟨S13184, .f32⟩
  | .hbm, ⟨4, _⟩ => ⟨S12288x14x128, .bf16⟩
  | .hbm, ⟨5, _⟩ => ⟨S14x128x13184, .fp8e4m3⟩
  | .hbm, ⟨6, _⟩ => ⟨S14x103x128, .f32⟩
  | .hbm, ⟨7, _⟩ => ⟨S14x13184, .f32⟩
  | .hbm, ⟨8, _⟩ => ⟨S12288x13184, .bf16⟩
  | .hbm, ⟨9, _⟩ => ⟨S12288x1792, .fp8e4m3⟩
  | .hbm, ⟨10, _⟩ => ⟨S12288x14, .f32⟩
  | .local _ .vmem, ⟨0, _⟩ => ⟨S12288x14x128, .bf16⟩
  | .local _ .vmem, ⟨1, _⟩ => ⟨S14x128x13184, .fp8e4m3⟩
  | .local _ .vmem, ⟨2, _⟩ => ⟨S14x13184, .f32⟩
  | .local _ .vmem, ⟨3, _⟩ => ⟨S13184, .f32⟩
  | .local _ .vmem, ⟨4, _⟩ => ⟨S12288x13184, .bf16⟩
  | .local _ .vmem, ⟨5, _⟩ => ⟨S12288x1792, .fp8e4m3⟩
  | .local _ .vmem, ⟨6, _⟩ => ⟨S12288x14, .f32⟩
  | _, _ => ⟨S3x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x14x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14x128x13184 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14x13184 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13184 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x13184 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1792 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x14 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Num.lean ====
module

public import Idealize.ShloMosaic.PureOps.Ideal.Laws

@[expose] public section

set_option maxRecDepth 16384

noncomputable section

namespace Cert.Proof

open Idealize.ShloMosaic

section Scalars

variable {F : FTy → Type} [FloatOps F]

/-- The float whose bits are the integer `e` in the exponent field and zeros elsewhere. -/
def pow2 (e : BitVec 32) : F .f32 := FloatOps.ofBits .f32 (IntOp.shli .vector e 23#32)

/-- One step of the search for the exponent field of `v`: add `b` to `e` unless the power of two with that
    exponent field lies above `v`. -/
def stepOf (v : F .f32) (e b : BitVec 32) : BitVec 32 :=
  Scalar.select (FloatOps.cmpf .olt v (pow2 (IntOp.addi e b))) e (IntOp.addi e b)

/-- The exponent field of `v`, by eight steps of binary search. -/
def fieldOf (v : F .f32) : BitVec 32 :=
  stepOf v (stepOf v (stepOf v (stepOf v (stepOf v (stepOf v (stepOf v (stepOf v 0#32 128#32) 64#32) 32#32) 16#32) 8#32)
    4#32) 2#32) 1#32

/-- The kernel's exponent of the scale. -/
def expOf (v : F .f32) : BitVec 32 :=
  Scalar.select (IntOp.cmpi .eq (fieldOf v) 0#32) 0#32 (IntOp.subi (fieldOf v) 126#32)

/-- The kernel's scale, a power of two built from its bits. -/
def scaleOf (v : F .f32) : F .f32 := pow2 (IntOp.addi (expOf v) 127#32)

/-- The kernel's inverse scale, a power of two built from its bits. -/
def invOf (v : F .f32) : F .f32 := pow2 (IntOp.subi 127#32 (expOf v))

/-- The reference's exponent of the scale. -/
def refExp (v : F .f32) : F .f32 :=
  Scalar.select (FloatOps.cmpf .olt v (FloatOps.ofBits .f32 0x00800000#32)) (FloatOps.ofBits .f32 0x00000000#32)
    (FloatOps.addf (FloatOps.floor (FloatOps.divf (FloatOps.log v) (Scalar.log (FloatOps.ofBits .f32 0x40000000#32))))
      (FloatOps.ofBits .f32 0x3F800000#32))

end Scalars

theorem ofBits_f32 (b : BitVec 32) : FloatOps.ofBits (F := Ideal) .f32 b = Ideal.ieee 8 23 b := rfl

/-- The power of two with exponent field `n`, a real number. -/
theorem pow2_ofNat (n : Nat) (h1 : 1 ≤ n) (h2 : n ≤ 254) :
    pow2 (F := Ideal) (BitVec.ofNat 32 n) = (((2 : ℝ) ^ ((n : ℤ) - 127) : ℝ) : EReal) := by
  have hs : ∀ t : Fin 256, ((IntOp.shli .vector (BitVec.ofNat 32 t.val) 23#32).extractLsb' 31 1 == 1#1) = false
      ∧ ((IntOp.shli .vector (BitVec.ofNat 32 t.val) 23#32).extractLsb' 23 8).toNat = t.val
      ∧ ((IntOp.shli .vector (BitVec.ofNat 32 t.val) 23#32).extractLsb' 0 23).toNat = 0 := by
    decide +kernel
  obtain ⟨ha, hb, hc⟩ := hs ⟨n, by omega⟩
  dsimp only at ha hb hc
  unfold pow2
  rw [ofBits_f32]
  unfold Ideal.ieee
  simp only [ha, hb, hc]
  rw [if_neg (by norm_num; omega), if_neg (by omega)]
  refine congrArg Real.toEReal ?_
  have : ((n : ℤ) - 127) = (23 : ℤ) + ((n : ℤ) - (2 ^ (8 - 1) - 1) - (23 : ℕ)) := by norm_num
  rw [this, zpow_add₀ (by norm_num)]
  norm_num

/-- Exponent field 255 is infinity. -/
theorem pow2_255 : pow2 (F := Ideal) (BitVec.ofNat 32 255) = (⊤ : EReal) := by
  have hs : ((IntOp.shli .vector (BitVec.ofNat 32 255) 23#32).extractLsb' 31 1 == 1#1) = false
      ∧ ((IntOp.shli .vector (BitVec.ofNat 32 255) 23#32).extractLsb' 23 8).toNat = 255
      ∧ ((IntOp.shli .vector (BitVec.ofNat 32 255) 23#32).extractLsb' 0 23).toNat = 0 := by
    decide +kernel
  obtain ⟨ha, hb, hc⟩ := hs
  unfold pow2
  rw [ofBits_f32]
  unfold Ideal.ieee
  simp only [ha, hb, hc]
  norm_num

/-- What the search knows of `n` when steps of total size below `w` remain: the threshold at `n` is not above `v`, and the
    one at `n + w` is. -/
def Inv (r : ℝ) (n w : Nat) : Prop :=
  (n = 0 ∨ (2 : ℝ) ^ ((n : ℤ) - 127) ≤ r) ∧ (256 ≤ n + w ∨ (n + w = 255) ∨ r < (2 : ℝ) ^ (((n + w : ℕ) : ℤ) - 127)) ∧ n + w ≤ 256

theorem step_inv (r : ℝ) (n b : Nat) (e : BitVec 32) (he : e = BitVec.ofNat 32 n) (hb : 1 ≤ b) (h : Inv r n (b + b)) :
    ∃ n', stepOf (F := Ideal) (r : EReal) e (BitVec.ofNat 32 b) = BitVec.ofNat 32 n' ∧ Inv r n' b := by
  subst he
  obtain ⟨h1, h2, h3⟩ := h
  have hadd : IntOp.addi (BitVec.ofNat 32 n) (BitVec.ofNat 32 b) = BitVec.ofNat 32 (n + b) := by
    show BitVec.ofNat 32 n + BitVec.ofNat 32 b = _
    rw [BitVec.ofNat_add]
  unfold stepOf
  rw [hadd]
  by_cases hlt : (r : EReal) < pow2 (F := Ideal) (BitVec.ofNat 32 (n + b))
  · refine ⟨n, ?_, h1, ?_, by omega⟩
    · have : FloatOps.cmpf (F := Ideal) (φ := .f32) .olt (r : EReal) (pow2 (F := Ideal) (BitVec.ofNat 32 (n + b))) = 1#1 := by
        show BitVec.ofBool (decide _) = _
        rw [decide_eq_true hlt]; rfl
      rw [this]; rfl
    · by_cases h255 : n + b = 255
      · right; left; exact h255
      · right; right
        rw [pow2_ofNat _ (by omega) (by omega)] at hlt
        exact EReal.coe_lt_coe_iff.mp hlt
  · refine ⟨n + b, ?_, ?_, ?_, by omega⟩
    · have : FloatOps.cmpf (F := Ideal) (φ := .f32) .olt (r : EReal) (pow2 (F := Ideal) (BitVec.ofNat 32 (n + b))) = 0#1 := by
        show BitVec.ofBool (decide _) = _
        rw [decide_eq_false hlt]; rfl
      rw [this]; rfl
    · right
      by_cases h255 : n + b = 255
      · exfalso; apply hlt; rw [h255, pow2_255]; exact EReal.coe_lt_top r
      · rw [pow2_ofNat _ (by omega) (by omega)] at hlt
        exact EReal.coe_le_coe_iff.mp (not_lt.mp hlt)
    · rw [add_assoc]; exact h2

/-- The search finds the exponent field. -/
theorem field_inv (r : ℝ) : ∃ n, fieldOf (F := Ideal) (r : EReal) = BitVec.ofNat 32 n ∧ Inv r n 1 := by
  have h0 : Inv r 0 (128 + 128) := ⟨Or.inl rfl, Or.inl (by norm_num), by norm_num⟩
  obtain ⟨n1, e1, h1⟩ := step_inv r 0 128 0#32 rfl (by norm_num) h0
  obtain ⟨n2, e2, h2⟩ := step_inv r n1 64 _ e1 (by norm_num) h1
  obtain ⟨n3, e3, h3⟩ := step_inv r n2 32 _ e2 (by norm_num) h2
  obtain ⟨n4, e4, h4⟩ := step_inv r n3 16 _ e3 (by norm_num) h3
  obtain ⟨n5, e5, h5⟩ := step_inv r n4 8 _ e4 (by norm_num) h4
  obtain ⟨n6, e6, h6⟩ := step_inv r n5 4 _ e5 (by norm_num) h5
  obtain ⟨n7, e7, h7⟩ := step_inv r n6 2 _ e6 (by norm_num) h6
  obtain ⟨n8, e8, h8⟩ := step_inv r n7 1 _ e7 (by norm_num) h7
  exact ⟨n8, e8, h8⟩

/-- The kernel's exponent and the two powers of two, by the exponent field `n`. -/
theorem exp_field (n : Nat) (hn : n ≤ 252) :
    Scalar.select (IntOp.cmpi .eq (BitVec.ofNat 32 n) 0#32) 0#32 (IntOp.subi (BitVec.ofNat 32 n) 126#32)
      = if n = 0 then 0#32 else BitVec.ofNat 32 n - 126#32 := by
  have : ∀ t : Fin 253, Scalar.select (IntOp.cmpi .eq (BitVec.ofNat 32 t.val) 0#32) 0#32 (IntOp.subi (BitVec.ofNat 32 t.val) 126#32)
      = if t.val = 0 then 0#32 else BitVec.ofNat 32 t.val - 126#32 := by decide +kernel
  exact this ⟨n, by omega⟩

theorem bits_lt (r : ℝ) (h : r < (2 : ℝ) ^ (-126 : ℤ)) : (FloatOps.cmpf (F := Ideal) (φ := .f32) .olt (r : EReal) (FloatOps.ofBits .f32 0x00800000#32)) = 1#1 := by
  have := pow2_ofNat 1 (by norm_num) (by norm_num)
  have h2 : (FloatOps.ofBits (F := Ideal) .f32 0x00800000#32) = (((2 : ℝ) ^ (-126 : ℤ) : ℝ) : EReal) := this
  rw [h2]
  show BitVec.ofBool (decide _) = _
  rw [decide_eq_true (EReal.coe_lt_coe_iff.mpr h)]; rfl

theorem bits_ge (r : ℝ) (h : (2 : ℝ) ^ (-126 : ℤ) ≤ r) : (FloatOps.cmpf (F := Ideal) (φ := .f32) .olt (r : EReal) (FloatOps.ofBits .f32 0x00800000#32)) = 0#1 := by
  have := pow2_ofNat 1 (by norm_num) (by norm_num)
  have h2 : (FloatOps.ofBits (F := Ideal) .f32 0x00800000#32) = (((2 : ℝ) ^ (-126 : ℤ) : ℝ) : EReal) := this
  rw [h2]
  show BitVec.ofBool (decide _) = _
  rw [decide_eq_false (by rw [EReal.coe_lt_coe_iff]; exact not_lt.mpr h)]; rfl

theorem bits_two : (FloatOps.ofBits (F := Ideal) .f32 0x40000000#32) = ((2 : ℝ) : EReal) := by
  have := pow2_ofNat 128 (by norm_num) (by norm_num)
  norm_num at this
  exact this

theorem bits_one : (FloatOps.ofBits (F := Ideal) .f32 0x3F800000#32) = ((1 : ℝ) : EReal) := by
  have := pow2_ofNat 127 (by norm_num) (by norm_num)
  norm_num at this
  exact this

theorem bits_zero : (FloatOps.ofBits (F := Ideal) .f32 0x00000000#32) = ((0 : ℝ) : EReal) := by
  rw [ofBits_f32]
  simp [Ideal.ieee]

/-- The reference's exponent of a value of at least the smallest normal number. -/
theorem refExp_normal (r : ℝ) (k : ℤ) (hk : -126 ≤ k) (h1 : (2 : ℝ) ^ k ≤ r) (h2 : r < (2 : ℝ) ^ (k + 1)) :
    refExp (F := Ideal) (r : EReal) = (((k + 1 : ℤ) : ℝ) : EReal) := by
  have hpos : 0 < r := lt_of_lt_of_le (by positivity) h1
  have hl2 : (0 : ℝ) < Real.log 2 := Real.log_pos (by norm_num)
  unfold refExp
  rw [bits_ge r (le_trans (zpow_le_zpow_right₀ (by norm_num) hk) h1), bits_two, bits_one]
  have hlog : (FloatOps.log (F := Ideal) (φ := .f32) (r : EReal)) = ((Real.log r : ℝ) : EReal) := by
    show (if r ≤ 0 then (⊥ : EReal) else (Real.log r : EReal)) = _
    rw [if_neg (not_le.mpr hpos)]
  have hlog2 : (Scalar.log (F := Ideal) (φ := .f32) ((2 : ℝ) : EReal)) = ((Real.log 2 : ℝ) : EReal) := by
    show (if (2 : ℝ) ≤ 0 then (⊥ : EReal) else (Real.log 2 : EReal)) = _
    rw [if_neg (by norm_num)]
  rw [hlog, hlog2]
  have hdiv : (FloatOps.divf (F := Ideal) (φ := .f32) ((Real.log r : ℝ) : EReal) ((Real.log 2 : ℝ) : EReal)) = ((Real.log r / Real.log 2 : ℝ) : EReal) := by
    show (if ((Real.log 2 : ℝ) : EReal) = 0 then (if (0 : EReal) < ((Real.log r : ℝ) : EReal) then (⊤ : EReal) else ⊥) else ((Real.log r : ℝ) : EReal) * ((Real.log 2 : ℝ) : EReal)⁻¹) = _
    rw [if_neg (by rw [EReal.coe_eq_zero]; exact hl2.ne'), ← EReal.coe_inv, ← EReal.coe_mul, div_eq_mul_inv]
  rw [hdiv]
  have hfl : ⌊Real.log r / Real.log 2⌋ = k := by
    rw [Int.floor_eq_iff]
    constructor
    · rw [le_div_iff₀ hl2, ← Real.log_zpow]
      exact Real.log_le_log (by positivity) h1
    · rw [div_lt_iff₀ hl2]
      have : ((k : ℝ) + 1) * Real.log 2 = Real.log ((2 : ℝ) ^ (k + 1)) := by rw [Real.log_zpow]; push_cast; ring
      rw [this]
      exact Real.log_lt_log hpos h2
  have hfloor : (FloatOps.floor (F := Ideal) (φ := .f32) ((Real.log r / Real.log 2 : ℝ) : EReal)) = ((k : ℝ) : EReal) := by
    show (((⌊Real.log r / Real.log 2⌋ : ℤ) : ℝ) : EReal) = _
    rw [hfl]
  rw [hfloor]
  show (((k : ℝ) : EReal) + ((1 : ℝ) : EReal)) = _
  rw [← EReal.coe_add]; push_cast; rfl

/-- The reference's exponent below the smallest normal number. -/
theorem refExp_small (r : ℝ) (h : r < (2 : ℝ) ^ (-126 : ℤ)) : refExp (F := Ideal) (r : EReal) = ((0 : ℝ) : EReal) := by
  unfold refExp
  rw [bits_lt r h, bits_zero]; rfl

theorem exp2_int (k : ℤ) : (FloatOps.exp2 (F := Ideal) (φ := .f32) (((k : ℤ) : ℝ) : EReal)) = (((2 : ℝ) ^ k : ℝ) : EReal) := by
  show ((Real.rpow 2 (k : ℝ) : ℝ) : EReal) = _
  congr 1
  exact Real.rpow_intCast 2 k

theorem add127 : ∀ t : Fin 253, t.val ≠ 0 → IntOp.addi (BitVec.ofNat 32 t.val - 126#32) 127#32 = BitVec.ofNat 32 (t.val + 1)
    ∧ IntOp.subi 127#32 (BitVec.ofNat 32 t.val - 126#32) = BitVec.ofNat 32 (253 - t.val) := by decide +kernel

/-- On nonnegative values below `2 ^ 126` the kernel's scale and inverse scale are the reference's. -/
theorem scale_inv_eq (v : EReal) (h0 : 0 ≤ v) (h1 : v < (((2 : ℝ) ^ (126 : ℤ) : ℝ) : EReal)) :
    scaleOf (F := Ideal) v = FloatOps.exp2 (F := Ideal) (φ := .f32) (refExp (F := Ideal) v)
    ∧ invOf (F := Ideal) v = FloatOps.exp2 (F := Ideal) (φ := .f32) (FloatOps.subf (F := Ideal) (φ := .f32) (FloatOps.ofBits .f32 0x00000000#32) (refExp (F := Ideal) v)) := by
  induction v with
  | bot => exact absurd h0 (by simp)
  | top => exact absurd h1 (by simp)
  | coe r =>
    obtain ⟨n, hE, hI1, hI2, hI3⟩ := field_inv r
    have hr1 : r < (2 : ℝ) ^ (126 : ℤ) := EReal.coe_lt_coe_iff.mp h1
    have hn : n ≤ 252 := by
      by_contra hc
      rcases hI1 with h | h
      · omega
      · have : (2 : ℝ) ^ (126 : ℤ) ≤ (2 : ℝ) ^ ((n : ℤ) - 127) := zpow_le_zpow_right₀ (by norm_num) (by omega)
        linarith
    have hup : r < (2 : ℝ) ^ (((n + 1 : ℕ) : ℤ) - 127) := by
      rcases hI2 with h | h | h
      · omega
      · omega
      · exact h
    unfold scaleOf invOf expOf
    rw [hE, exp_field n hn, bits_zero]
    by_cases hz : n = 0
    · subst hz
      rw [if_pos rfl, refExp_small r (by simpa using hup)]
      have e1 : FloatOps.subf (F := Ideal) (φ := .f32) ((0 : ℝ) : EReal) ((0 : ℝ) : EReal) = (((0 : ℤ) : ℝ) : EReal) := by
        show ((0 : ℝ) : EReal) - ((0 : ℝ) : EReal) = _
        rw [← EReal.coe_sub]; norm_num
      have e0 : (((0 : ℝ) : EReal)) = (((0 : ℤ) : ℝ) : EReal) := by norm_num
      rw [e1, e0, exp2_int]
      have := pow2_ofNat 127 (by norm_num) (by norm_num)
      norm_num at this
      simp only [zpow_zero]
      exact ⟨this, this⟩
    · have hlo : (2 : ℝ) ^ ((n : ℤ) - 127) ≤ r := hI1.resolve_left hz
      rw [if_neg hz, (add127 ⟨n, by omega⟩ hz).1, (add127 ⟨n, by omega⟩ hz).2,
        refExp_normal r ((n : ℤ) - 127) (by omega) hlo (by rw [show ((n : ℤ) - 127 + 1) = ((n + 1 : ℕ) : ℤ) - 127 by push_cast; ring]; exact hup)]
      have e1 : FloatOps.subf (F := Ideal) (φ := .f32) ((0 : ℝ) : EReal) ((((n : ℤ) - 127 + 1 : ℤ) : ℝ) : EReal) = (((126 - (n : ℤ) : ℤ) : ℝ) : EReal) := by
        show ((0 : ℝ) : EReal) - _ = _
        rw [← EReal.coe_sub]; congr 1; push_cast; ring
      rw [e1, exp2_int, exp2_int]
      dsimp only
      rw [pow2_ofNat _ (by omega) (by omega), pow2_ofNat _ (by omega) (by omega)]
      constructor
      · rw [show ((n + 1 : ℕ) : ℤ) - 127 = (n : ℤ) - 127 + 1 by omega]
      · rw [show ((253 - n : ℕ) : ℤ) - 127 = 126 - (n : ℤ) by omega]

end Cert.Proof

end
-- ==== Proof.Group.lean ====
module

public import proofs.«01_k».proof.Proof.Gen.KernelIdeal.Skeleton
public import proofs.«01_k».proof.Proof.Num

@[expose] public section

set_option maxRecDepth 16384

noncomputable section

namespace Cert.Proof

open Idealize.ShloMosaic Cert.KernelIdeal Cert.KernelIdeal.Gen

variable {F : FTy → Type} [FloatOps F]

/-- The absolute value of each row's maximum magnitude times `1 / 448`, of a group of 128 columns. -/
def gM (X : FVec F S256x128 .bf16) : FVec F S256x1 .f32 :=
  absf (mulf (shapeCast S256x1
      (multiReduction .maximumf [1] S256 (absf (extf .f32 (shapeCast S256x128 X shapeCasts_S256x128_S256x128) bitsLt_bf16_f32)) 0xFF800000#32
        reduces_S256x128_S256 (.inl rfl) rfl) shapeCasts_S256_S256x1)
    (broadcast S256x1 (Scalar.ofBits .f32 0x3B124925#32)))

/-- One step of the search for the exponent field, on every row. -/
def vStep (m : FVec F S256x1 .f32) (e : IVec S256x1 32) (b : BitVec 32) : IVec S256x1 32 :=
  select (cmpf .olt m (bitcastToFloat .f32 (shli (addi e (broadcast S256x1 b)) (broadcast S256x1 23#32)))) e (addi e (broadcast S256x1 b))

/-- The exponent field of every row. -/
def vField (m : FVec F S256x1 .f32) : IVec S256x1 32 :=
  vStep m (vStep m (vStep m (vStep m (vStep m (vStep m (vStep m (vStep m (broadcast S256x1 0#32) 128#32) 64#32) 32#32) 16#32) 8#32)
    4#32) 2#32) 1#32

/-- The exponent of every row's scale. -/
def vExp (m : FVec F S256x1 .f32) : IVec S256x1 32 :=
  select (cmpi .eq (vField m) (broadcast S256x1 0#32)) (broadcast S256x1 0#32) (subi (vField m) (broadcast S256x1 126#32))

/-- The scale of every row of a group. -/
def gS (X : FVec F S256x128 .bf16) : FVec F S256x1 .f32 :=
  bitcastToFloat .f32 (shli (addi (vExp (gM X)) (broadcast S256x1 127#32)) (broadcast S256x1 23#32))

/-- The inverse scale of every row of a group. -/
def gI (X : FVec F S256x128 .bf16) : FVec F S256x1 .f32 :=
  bitcastToFloat .f32 (shli (subi (broadcast S256x1 127#32) (vExp (gM X))) (broadcast S256x1 23#32))

/-- The codes of a group. -/
def gQ (X : FVec F S256x128 .bf16) : FVec F S256x128 .fp8e4m3 :=
  truncf .fp8e4m3 (minimumf (broadcast S256x128 (Scalar.ofBits .f32 0x43E00000#32)) (maximumf (broadcast S256x128 (Scalar.ofBits .f32 0xC3E00000#32))
    (mulf (extf .f32 (shapeCast S256x128 X shapeCasts_S256x128_S256x128) bitsLt_bf16_f32) (broadcastTo S256x128 (gI X) broadcasts_S256x1_S256x128)))) bitsLt_fp8e4m3_f32

/-- The scale of every row of a group, spread over 128 columns. -/
def gB (X : FVec F S256x128 .bf16) : FVec F S1x256x128 .f32 :=
  shapeCast S1x256x128 (broadcastTo S256x128 (shapeCast S256x1 (gS X) shapeCasts_S256x1_S256x1) broadcasts_S256x1_S256x128) shapeCasts_S256x128_S1x256x128

theorem vField_apply (m : FVec F S256x1 .f32) (j : S256x1.Idx) : vField m j = fieldOf (m j) := rfl
theorem vExp_apply (m : FVec F S256x1 .f32) (j : S256x1.Idx) : vExp m j = expOf (m j) := rfl
theorem gS_apply (X : FVec F S256x128 .bf16) (j : S256x1.Idx) : gS X j = scaleOf (gM X j) := rfl
theorem gI_apply (X : FVec F S256x128 .bf16) (j : S256x1.Idx) : gI X j = invOf (gM X j) := rfl

theorem q_0 (X : Vec F S256x128 .bf16) : k0_pay19 (k0_pay12 X) (k0_pay13 X) (k0_pay14 X) (k0_pay15 X) (k0_pay16 X) = gQ X := rfl
theorem b_0 (X : Vec F S256x128 .bf16) : k0_pay20 (k0_pay18 (k0_pay13 X) (k0_pay14 X) (k0_pay15 X) (k0_pay16 X)) = gB X := rfl
theorem s_0 (X : Vec F S256x128 .bf16) : k0_pay18 (k0_pay13 X) (k0_pay14 X) (k0_pay15 X) (k0_pay16 X) = gS X := rfl
theorem q_1 (X : Vec F S256x128 .bf16) : k0_pay29 (k0_pay21 X) (k0_pay28 (k0_pay22 X) (k0_pay23 X) (k0_pay24 X) k0_pay25) 23#32 = gQ X := rfl
theorem b_1 (X : Vec F S256x128 .bf16) : k0_pay30 (k0_pay27 (k0_pay22 X) (k0_pay23 X) (k0_pay24 X) k0_pay25) = gB X := rfl
theorem s_1 (X : Vec F S256x128 .bf16) : k0_pay27 (k0_pay22 X) (k0_pay23 X) (k0_pay24 X) k0_pay25 = gS X := rfl
theorem q_2 (X : Vec F S256x128 .bf16) : k0_pay41 (k0_pay31 X) (k0_pay36 (k0_pay32 X) (k0_pay33 X) k0_pay34) (k0_pay37 (k0_pay32 X) (k0_pay33 X) k0_pay34) k0_pay38 = gQ X := rfl
theorem b_2 (X : Vec F S256x128 .bf16) : k0_pay42 (k0_pay36 (k0_pay32 X) (k0_pay33 X) k0_pay34) (k0_pay37 (k0_pay32 X) (k0_pay33 X) k0_pay34) k0_pay38 = gB X := rfl
theorem s_2 (X : Vec F S256x128 .bf16) : k0_pay40 (k0_pay36 (k0_pay32 X) (k0_pay33 X) k0_pay34) (k0_pay37 (k0_pay32 X) (k0_pay33 X) k0_pay34) k0_pay38 = gS X := rfl
theorem q_3 (X : Vec F S256x128 .bf16) : k0_pay53 (k0_pay43 X) (k0_pay44 X) (k0_pay48 (k0_pay44 X) k0_pay45 k0_pay46 (k0_pay47 X)) (k0_pay49 (k0_pay44 X) k0_pay45 k0_pay46 (k0_pay47 X)) k0_pay50 = gQ X := rfl
theorem b_3 (X : Vec F S256x128 .bf16) : k0_pay54 (k0_pay44 X) (k0_pay48 (k0_pay44 X) k0_pay45 k0_pay46 (k0_pay47 X)) (k0_pay49 (k0_pay44 X) k0_pay45 k0_pay46 (k0_pay47 X)) k0_pay50 = gB X := rfl
theorem s_3 (X : Vec F S256x128 .bf16) : k0_pay52 (k0_pay44 X) (k0_pay48 (k0_pay44 X) k0_pay45 k0_pay46 (k0_pay47 X)) (k0_pay49 (k0_pay44 X) k0_pay45 k0_pay46 (k0_pay47 X)) k0_pay50 = gS X := rfl
theorem q_4 (X : Vec F S256x128 .bf16) : k0_pay63 (k0_pay55 X) (k0_pay58 (k0_pay56 X) k0_pay57) (k0_pay59 (k0_pay56 X) k0_pay57) k0_pay60 = gQ X := rfl
theorem b_4 (X : Vec F S256x128 .bf16) : k0_pay64 (k0_pay58 (k0_pay56 X) k0_pay57) (k0_pay59 (k0_pay56 X) k0_pay57) k0_pay60 = gB X := rfl
theorem s_4 (X : Vec F S256x128 .bf16) : k0_pay62 (k0_pay58 (k0_pay56 X) k0_pay57) (k0_pay59 (k0_pay56 X) k0_pay57) k0_pay60 = gS X := rfl
theorem q_5 (X : Vec F S256x128 .bf16) : k0_pay72 (k0_pay65 X) (k0_pay66 X) (k0_pay67 X) (k0_pay68 X) (k0_pay69 X) = gQ X := rfl
theorem b_5 (X : Vec F S256x128 .bf16) : k0_pay73 (k0_pay71 (k0_pay66 X) (k0_pay67 X) (k0_pay68 X) (k0_pay69 X)) = gB X := rfl
theorem s_5 (X : Vec F S256x128 .bf16) : k0_pay71 (k0_pay66 X) (k0_pay67 X) (k0_pay68 X) (k0_pay69 X) = gS X := rfl
theorem q_6 (X : Vec F S256x128 .bf16) : k0_pay82 (k0_pay74 X) (k0_pay81 (k0_pay75 X) (k0_pay76 X) (k0_pay77 X) k0_pay78) 23#32 = gQ X := rfl
theorem b_6 (X : Vec F S256x128 .bf16) : k0_pay83 (k0_pay80 (k0_pay75 X) (k0_pay76 X) (k0_pay77 X) k0_pay78) = gB X := rfl
theorem s_6 (X : Vec F S256x128 .bf16) : k0_pay80 (k0_pay75 X) (k0_pay76 X) (k0_pay77 X) k0_pay78 = gS X := rfl
theorem q_7 (X : Vec F S256x128 .bf16) : k0_pay94 (k0_pay84 X) (k0_pay89 (k0_pay85 X) (k0_pay86 X) k0_pay87) (k0_pay90 (k0_pay85 X) (k0_pay86 X) k0_pay87) k0_pay91 = gQ X := rfl
theorem b_7 (X : Vec F S256x128 .bf16) : k0_pay95 (k0_pay89 (k0_pay85 X) (k0_pay86 X) k0_pay87) (k0_pay90 (k0_pay85 X) (k0_pay86 X) k0_pay87) k0_pay91 = gB X := rfl
theorem s_7 (X : Vec F S256x128 .bf16) : k0_pay93 (k0_pay89 (k0_pay85 X) (k0_pay86 X) k0_pay87) (k0_pay90 (k0_pay85 X) (k0_pay86 X) k0_pay87) k0_pay91 = gS X := rfl
theorem q_8 (X : Vec F S256x128 .bf16) : k0_pay106 (k0_pay96 X) (k0_pay97 X) (k0_pay101 (k0_pay97 X) k0_pay98 k0_pay99 (k0_pay100 X)) (k0_pay102 (k0_pay97 X) k0_pay98 k0_pay99 (k0_pay100 X)) k0_pay103 = gQ X := rfl
theorem b_8 (X : Vec F S256x128 .bf16) : k0_pay107 (k0_pay97 X) (k0_pay101 (k0_pay97 X) k0_pay98 k0_pay99 (k0_pay100 X)) (k0_pay102 (k0_pay97 X) k0_pay98 k0_pay99 (k0_pay100 X)) k0_pay103 = gB X := rfl
theorem s_8 (X : Vec F S256x128 .bf16) : k0_pay105 (k0_pay97 X) (k0_pay101 (k0_pay97 X) k0_pay98 k0_pay99 (k0_pay100 X)) (k0_pay102 (k0_pay97 X) k0_pay98 k0_pay99 (k0_pay100 X)) k0_pay103 = gS X := rfl
theorem q_9 (X : Vec F S256x128 .bf16) : k0_pay116 (k0_pay108 X) (k0_pay111 (k0_pay109 X) k0_pay110) (k0_pay112 (k0_pay109 X) k0_pay110) k0_pay113 = gQ X := rfl
theorem b_9 (X : Vec F S256x128 .bf16) : k0_pay117 (k0_pay111 (k0_pay109 X) k0_pay110) (k0_pay112 (k0_pay109 X) k0_pay110) k0_pay113 = gB X := rfl
theorem s_9 (X : Vec F S256x128 .bf16) : k0_pay115 (k0_pay111 (k0_pay109 X) k0_pay110) (k0_pay112 (k0_pay109 X) k0_pay110) k0_pay113 = gS X := rfl
theorem q_10 (X : Vec F S256x128 .bf16) : k0_pay125 (k0_pay118 X) (k0_pay119 X) (k0_pay120 X) (k0_pay121 X) (k0_pay122 X) = gQ X := rfl
theorem b_10 (X : Vec F S256x128 .bf16) : k0_pay126 (k0_pay124 (k0_pay119 X) (k0_pay120 X) (k0_pay121 X) (k0_pay122 X)) = gB X := rfl
theorem s_10 (X : Vec F S256x128 .bf16) : k0_pay124 (k0_pay119 X) (k0_pay120 X) (k0_pay121 X) (k0_pay122 X) = gS X := rfl
theorem q_11 (X : Vec F S256x128 .bf16) : k0_pay135 (k0_pay127 X) (k0_pay134 (k0_pay128 X) (k0_pay129 X) (k0_pay130 X) k0_pay131) 23#32 = gQ X := rfl
theorem b_11 (X : Vec F S256x128 .bf16) : k0_pay136 (k0_pay133 (k0_pay128 X) (k0_pay129 X) (k0_pay130 X) k0_pay131) = gB X := rfl
theorem s_11 (X : Vec F S256x128 .bf16) : k0_pay133 (k0_pay128 X) (k0_pay129 X) (k0_pay130 X) k0_pay131 = gS X := rfl
theorem q_12 (X : Vec F S256x128 .bf16) : k0_pay147 (k0_pay137 X) (k0_pay142 (k0_pay138 X) (k0_pay139 X) k0_pay140) (k0_pay143 (k0_pay138 X) (k0_pay139 X) k0_pay140) k0_pay144 = gQ X := rfl
theorem b_12 (X : Vec F S256x128 .bf16) : k0_pay148 (k0_pay142 (k0_pay138 X) (k0_pay139 X) k0_pay140) (k0_pay143 (k0_pay138 X) (k0_pay139 X) k0_pay140) k0_pay144 = gB X := rfl
theorem s_12 (X : Vec F S256x128 .bf16) : k0_pay146 (k0_pay142 (k0_pay138 X) (k0_pay139 X) k0_pay140) (k0_pay143 (k0_pay138 X) (k0_pay139 X) k0_pay140) k0_pay144 = gS X := rfl
theorem q_13 (X : Vec F S256x128 .bf16) : k0_pay159 (k0_pay149 X) (k0_pay150 X) (k0_pay154 (k0_pay150 X) k0_pay151 k0_pay152 (k0_pay153 X)) (k0_pay155 (k0_pay150 X) k0_pay151 k0_pay152 (k0_pay153 X)) k0_pay156 = gQ X := rfl
theorem b_13 (X : Vec F S256x128 .bf16) : k0_pay160 (k0_pay150 X) (k0_pay154 (k0_pay150 X) k0_pay151 k0_pay152 (k0_pay153 X)) (k0_pay155 (k0_pay150 X) k0_pay151 k0_pay152 (k0_pay153 X)) k0_pay156 = gB X := rfl

theorem s_13 (X : Vec F S256x128 .bf16) : k0_pay158 (k0_pay150 X) (k0_pay154 (k0_pay150 X) k0_pay151 k0_pay152 (k0_pay153 X)) (k0_pay155 (k0_pay150 X) k0_pay151 k0_pay152 (k0_pay153 X)) k0_pay156 = gS X := rfl

end Cert.Proof

end
-- ==== Proof.Blocks.lean ====
module

public import proofs.«01_k».proof.Proof.Gen.KernelIdeal.Frame
public import proofs.«01_k».proof.Proof.Group
public import Idealize.ShloMosaic.Lib.Pipeline.Value
public import Idealize.ShloMosaic.Lib.Pointwise

@[expose] public section

set_option maxRecDepth 16384

noncomputable section

namespace Cert.Proof

open Idealize.ShloMosaic Cert.KernelIdeal Cert.KernelIdeal.Gen

variable {F : FTy → Type} [FloatOps F]

theorem zero2 : (![0, 0] : Fin 2 → Nat) = fun _ => 0 := by
  funext a
  match a with
  | ⟨0, _⟩ => rfl
  | ⟨1, _⟩ => rfl

/-- Columns `128 g … 128 g + 127` of a block of rows. -/
def colg (x0 : Vec F S256x1792 .bf16) (g : Fin 14) : Vec F S256x128 .bf16 := fun j =>
  x0 (ix2 (j 0) (⟨128 * g.val + (j 1).val, by have h : (j 1).val < 128 := (j 1).isLt; omega⟩ : Fin 1792))

/-- The group a column of a block belongs to. -/
def grp (k : Fin 1792) : Fin 14 := ⟨k.val / 128, by omega⟩

/-- A column's place in its group. -/
def pos (k : Fin 1792) : Fin 128 := ⟨k.val % 128, by omega⟩

/-- The codes of a block: every group's codes side by side. -/
def Qblk (x0 : Vec F S256x1792 .bf16) : Vec F S256x1792 .fp8e4m3 := fun y =>
  gQ (colg x0 (grp (y 1))) (ix2 (y 0) (pos (y 1)))

/-- The spread scales of a block, group by group. -/
def Bblk (x0 : Vec F S256x1792 .bf16) : Vec F S14x256x128 .f32 := fun y =>
  gS (colg x0 (y 0)) (ix2 (y 1) (0 : Fin 1))

/-- The scales of a block, one column per group. -/
def Sblk (x0 : Vec F S256x1792 .bf16) : Vec F S256x14 .f32 := fun y =>
  gS (colg x0 (y 1)) (ix2 (y 0) (0 : Fin 1))

/-- A load of one group of columns from the block a reference holds. -/
theorem read_colg (arg1 : Memref sig .tc .vmem S256x1792 .bf16) (harg1 : arg1.IsWhole) (x0 : Vec F S256x1792 .bf16) {c : Nat} (g : Fin 14)
    (hc : c = 128 * g.val) (inb : ∀ a : Fin S256x1792.rank, (![0, c] : Fin 2 → Nat) a + S256x128.size a ≤ S256x1792.size a) :
    View.readAt (Elt F) arg1.view (Rect.unit (s := S256x1792) ![0, c] S256x128.size inb).toLoadRect (harg1.unread x0) = colg x0 g := by
  rw [View.readAt_eq_ld, harg1.read_unread]
  funext j
  refine congrArg x0 ?_
  funext a
  apply Fin.ext
  match a with
  | ⟨0, _⟩ => show 0 + 1 * (j 0).val = (j 0).val; omega
  | ⟨1, _⟩ => show c + 1 * (j 1).val = 128 * g.val + (j 1).val; omega

/-- A piece that holds one group's codes agrees with the block's codes. -/
theorem q_piece (arg1 : Memref sig .tc .vmem S256x1792 .bf16) (harg1 : arg1.IsWhole) (x0 : Vec F S256x1792 .bf16) {c : Nat} (g : Fin 14)
    (hc : c = 128 * g.val) (inb : ∀ a : Fin S256x1792.rank, (![0, c] : Fin 2 → Nat) a + S256x128.size a ≤ S256x1792.size a)
    (w : Vec F S256x128 .fp8e4m3)
    (hw : w = gQ (View.readAt (Elt F) arg1.view (Rect.unit (s := S256x1792) ![0, c] S256x128.size inb).toLoadRect (harg1.unread x0)))
    (x : S256x128.Idx) : w x = Qblk x0 ((Rect.unit (s := S256x1792) ![0, c] S256x128.size inb).emb x) := by
  rw [hw, read_colg arg1 harg1 x0 g hc inb]
  have h1 : (x 1).val < 128 := (x 1).isLt
  have e1 : grp ((Rect.unit (s := S256x1792) ![0, c] S256x128.size inb).emb x 1) = g :=
    Fin.ext (show (c + 1 * (x 1).val) / 128 = g.val by omega)
  show gQ (colg x0 g) x = gQ (colg x0 (grp ((Rect.unit (s := S256x1792) ![0, c] S256x128.size inb).emb x 1))) _
  rw [e1]
  refine congrArg _ ?_
  funext a
  apply Fin.ext
  match a with
  | ⟨0, _⟩ => show (x 0).val = 0 + 1 * (x 0).val; omega
  | ⟨1, _⟩ => show (x 1).val = (c + 1 * (x 1).val) % 128; omega

/-- The spread scale at an entry is its row's scale. -/
theorem gB_apply (X : FVec F S256x128 .bf16) (x : S1x256x128.Idx) : gB X x = gS X (ix2 (x 1) (0 : Fin 1)) := by
  idx_vars x
  unfold gB
  pointwise

/-- A piece that holds one group's spread scales agrees with the block's spread scales. -/
theorem b_piece (arg1 : Memref sig .tc .vmem S256x1792 .bf16) (harg1 : arg1.IsWhole) (x0 : Vec F S256x1792 .bf16) {c d : Nat} (g : Fin 14)
    (hd : d = g.val) (hc : c = 128 * g.val)
    (inb : ∀ a : Fin S256x1792.rank, (![0, c] : Fin 2 → Nat) a + S256x128.size a ≤ S256x1792.size a)
    (inb' : ∀ a : Fin S14x256x128.rank, (![d, 0, 0] : Fin 3 → Nat) a + S1x256x128.size a ≤ S14x256x128.size a)
    (w : Vec F S1x256x128 .f32)
    (hw : w = gB (View.readAt (Elt F) arg1.view (Rect.unit (s := S256x1792) ![0, c] S256x128.size inb).toLoadRect (harg1.unread x0)))
    (x : S1x256x128.Idx) : w x = Bblk x0 ((Rect.unit (s := S14x256x128) ![d, 0, 0] S1x256x128.size inb').emb x) := by
  rw [hw, read_colg arg1 harg1 x0 g hc inb, gB_apply]
  have h0 : (x 0).val < 1 := (x 0).isLt
  have e0 : (Rect.unit (s := S14x256x128) ![d, 0, 0] S1x256x128.size inb').emb x 0 = g :=
    Fin.ext (show d + 1 * (x 0).val = g.val by omega)
  have e1 : (Rect.unit (s := S14x256x128) ![d, 0, 0] S1x256x128.size inb').emb x 1 = x 1 :=
    Fin.ext (show 0 + 1 * (x 1).val = (x 1).val by omega)
  show _ = gS (colg x0 ((Rect.unit (s := S14x256x128) ![d, 0, 0] S1x256x128.size inb').emb x 0)) (ix2 ((Rect.unit (s := S14x256x128) ![d, 0, 0] S1x256x128.size inb').emb x 1) (0 : Fin 1))
  rw [e0, e1]

/-- The pieces of the codes agree with the block's codes. -/
theorem H5_eq (c : Dev nD) (arg1 : Memref sig .tc .vmem S256x1792 .bf16) (harg1 : arg1.IsWhole) (x0 : Vec F S256x1792 .bf16) :
    ∀ p ∈ kernelRun0_A.sl.H5_14 c arg1 harg1 x0, ∀ x, p.2 x = Qblk x0 (p.1.emb x) := by
  unfold kernelRun0_A.sl.H5_14
  refine List.forall_mem_cons.2 ⟨q_piece arg1 harg1 x0 13 rfl _ _ (q_13 _), ?_⟩
  refine List.forall_mem_cons.2 ⟨q_piece arg1 harg1 x0 12 rfl _ _ (q_12 _), ?_⟩
  refine List.forall_mem_cons.2 ⟨q_piece arg1 harg1 x0 11 rfl _ _ (q_11 _), ?_⟩
  refine List.forall_mem_cons.2 ⟨q_piece arg1 harg1 x0 10 rfl _ _ (q_10 _), ?_⟩
  refine List.forall_mem_cons.2 ⟨q_piece arg1 harg1 x0 9 rfl _ _ (q_9 _), ?_⟩
  refine List.forall_mem_cons.2 ⟨q_piece arg1 harg1 x0 8 rfl _ _ (q_8 _), ?_⟩
  refine List.forall_mem_cons.2 ⟨q_piece arg1 harg1 x0 7 rfl _ _ (q_7 _), ?_⟩
  refine List.forall_mem_cons.2 ⟨q_piece arg1 harg1 x0 6 rfl _ _ (q_6 _), ?_⟩
  refine List.forall_mem_cons.2 ⟨q_piece arg1 harg1 x0 5 rfl _ _ (q_5 _), ?_⟩
  refine List.forall_mem_cons.2 ⟨q_piece arg1 harg1 x0 4 rfl _ _ (q_4 _), ?_⟩
  refine List.forall_mem_cons.2 ⟨q_piece arg1 harg1 x0 3 rfl _ _ (q_3 _), ?_⟩
  refine List.forall_mem_cons.2 ⟨q_piece arg1 harg1 x0 2 rfl _ _ (q_2 _), ?_⟩
  refine List.forall_mem_cons.2 ⟨q_piece arg1 harg1 x0 1 rfl _ _ (q_1 _), ?_⟩
  refine List.forall_mem_cons.2 ⟨q_piece arg1 harg1 x0 0 rfl _ _ (q_0 _), ?_⟩
  exact fun p hp => absurd hp List.not_mem_nil

/-- The pieces of the spread scales agree with the block's spread scales. -/
theorem HS0_eq (c : Dev nD) (arg1 : Memref sig .tc .vmem S256x1792 .bf16) (harg1 : arg1.IsWhole) (x0 : Vec F S256x1792 .bf16) :
    ∀ p ∈ kernelRun0_A.sl.HS0_14 c arg1 harg1 x0, ∀ x, p.2 x = Bblk x0 (p.1.emb x) := by
  unfold kernelRun0_A.sl.HS0_14
  refine List.forall_mem_cons.2 ⟨b_piece arg1 harg1 x0 (d := 13) 13 rfl rfl _ inb_S14x256x128_S1x256x128_13_0_0 _ (b_13 _), ?_⟩
  refine List.forall_mem_cons.2 ⟨b_piece arg1 harg1 x0 (d := 12) 12 rfl rfl _ inb_S14x256x128_S1x256x128_12_0_0 _ (b_12 _), ?_⟩
  refine List.forall_mem_cons.2 ⟨b_piece arg1 harg1 x0 (d := 11) 11 rfl rfl _ inb_S14x256x128_S1x256x128_11_0_0 _ (b_11 _), ?_⟩
  refine List.forall_mem_cons.2 ⟨b_piece arg1 harg1 x0 (d := 10) 10 rfl rfl _ inb_S14x256x128_S1x256x128_10_0_0 _ (b_10 _), ?_⟩
  refine List.forall_mem_cons.2 ⟨b_piece arg1 harg1 x0 (d := 9) 9 rfl rfl _ inb_S14x256x128_S1x256x128_9_0_0 _ (b_9 _), ?_⟩
  refine List.forall_mem_cons.2 ⟨b_piece arg1 harg1 x0 (d := 8) 8 rfl rfl _ inb_S14x256x128_S1x256x128_8_0_0 _ (b_8 _), ?_⟩
  refine List.forall_mem_cons.2 ⟨b_piece arg1 harg1 x0 (d := 7) 7 rfl rfl _ inb_S14x256x128_S1x256x128_7_0_0 _ (b_7 _), ?_⟩
  refine List.forall_mem_cons.2 ⟨b_piece arg1 harg1 x0 (d := 6) 6 rfl rfl _ inb_S14x256x128_S1x256x128_6_0_0 _ (b_6 _), ?_⟩
  refine List.forall_mem_cons.2 ⟨b_piece arg1 harg1 x0 (d := 5) 5 rfl rfl _ inb_S14x256x128_S1x256x128_5_0_0 _ (b_5 _), ?_⟩
  refine List.forall_mem_cons.2 ⟨b_piece arg1 harg1 x0 (d := 4) 4 rfl rfl _ inb_S14x256x128_S1x256x128_4_0_0 _ (b_4 _), ?_⟩
  refine List.forall_mem_cons.2 ⟨b_piece arg1 harg1 x0 (d := 3) 3 rfl rfl _ inb_S14x256x128_S1x256x128_3_0_0 _ (b_3 _), ?_⟩
  refine List.forall_mem_cons.2 ⟨b_piece arg1 harg1 x0 (d := 2) 2 rfl rfl _ inb_S14x256x128_S1x256x128_2_0_0 _ (b_2 _), ?_⟩
  refine List.forall_mem_cons.2 ⟨b_piece arg1 harg1 x0 (d := 1) 1 rfl rfl _ inb_S14x256x128_S1x256x128_1_0_0 _ (b_1 _), ?_⟩
  refine List.forall_mem_cons.2 ⟨b_piece arg1 harg1 x0 (d := 0) 0 rfl rfl _ inb_S14x256x128_S1x256x128_0_0_0 _ (b_0 _), ?_⟩
  exact fun p hp => absurd hp List.not_mem_nil

/-- The codes a run holds when it starts to multiply. -/
theorem codes_eq (c : Dev nD) (arg1 : Memref sig .tc .vmem S256x1792 .bf16) (harg1 : arg1.IsWhole) (x0 : Vec F S256x1792 .bf16) :
    View.canon (kernelRun0_A.sl.H5_14 c arg1 harg1 x0) = Qblk x0 := by
  funext y
  exact View.canon_apply_of_pieces _ _ (H5_eq c arg1 harg1 x0) y
    (View.cover_of_tiledL (kernelRun0_A.sl.H5_14 c arg1 harg1 x0) S256x128.size (by sl_kernel_rfl) y)

/-- The spread scales a run holds when it starts to multiply. -/
theorem spread_eq (c : Dev nD) (arg1 : Memref sig .tc .vmem S256x1792 .bf16) (harg1 : arg1.IsWhole) (x0 : Vec F S256x1792 .bf16) :
    View.canon (kernelRun0_A.sl.HS0_14 c arg1 harg1 x0) = Bblk x0 := by
  funext y
  exact View.canon_apply_of_pieces _ _ (HS0_eq c arg1 harg1 x0) y
    (View.cover_of_tiledL (kernelRun0_A.sl.HS0_14 c arg1 harg1 x0) S1x256x128.size (by sl_kernel_rfl) y)

/-- What a run leaves in the block of codes. -/
theorem out5_eq (c : Dev nD) (i : grid0.Coords) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole) (arg5 : Memref sig .tc .vmem S256x13184 .bf16) (harg5 : arg5.IsWhole) (arg6 : Memref sig .tc .vmem S256x1792 .fp8e4m3) (harg6 : arg6.IsWhole) (arg7 : Memref sig .tc .vmem S256x14 .f32) (harg7 : arg7.IsWhole) (arg8 : Memref sig .tc .vmem S14x256x128 .f32) (harg8 : arg8.IsWhole)
    (x0 : Vec F S256x1792 .bf16) (x1 : Vec F S1792x13184 .fp8e4m3) (x2 : Vec F S14x13184 .f32) (x3 : Vec F S1x13184 .f32) :
    out0_A_5 c i arg1 harg1 arg2 harg2 arg3 harg3 arg4 harg4 arg5 harg5 arg6 harg6 arg7 harg7 arg8 harg8 x0 x1 x2 x3 = Qblk x0 := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  unfold kernelRun0_A
  dsimp only
  exact codes_eq c arg1 harg1 x0

theorem inbg (g : Fin 14) : ∀ a : Fin S256x1792.rank, (![0, 128 * g.val] : Fin 2 → Nat) a + S256x128.size a ≤ S256x1792.size a := by
  intro a
  match a with
  | ⟨0, _⟩ => exact Nat.le_refl 256
  | ⟨1, _⟩ => show 128 * g.val + 128 ≤ 1792; omega

/-- The load of group `g` from the block a reference holds. -/
def readg (arg1 : Memref sig .tc .vmem S256x1792 .bf16) (harg1 : arg1.IsWhole) (x0 : Vec F S256x1792 .bf16) (g : Fin 14) : Vec F S256x128 .bf16 :=
  View.readAt (Elt F) arg1.view (Rect.unit (s := S256x1792) ![0, 128 * g.val] S256x128.size (inbg g)).toLoadRect (harg1.unread x0)

theorem readg_eq (arg1 : Memref sig .tc .vmem S256x1792 .bf16) (harg1 : arg1.IsWhole) (x0 : Vec F S256x1792 .bf16) (g : Fin 14) :
    readg arg1 harg1 x0 g = colg x0 g := read_colg arg1 harg1 x0 g rfl (inbg g)

/-- Fourteen columns side by side, read at an entry. -/
theorem cols_apply (f : Fin 14 → FVec F S256x1 .f32) (h : Shape.Concatenates [S256x1, S256x1, S256x1, S256x1, S256x1, S256x1, S256x1, S256x1, S256x1, S256x1, S256x1, S256x1, S256x1, S256x1] S256x14 1)
    (y : S256x14.Idx) :
    concatenate S256x14 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩, ⟨S256x1, f 8⟩, ⟨S256x1, f 9⟩, ⟨S256x1, f 10⟩, ⟨S256x1, f 11⟩, ⟨S256x1, f 12⟩, ⟨S256x1, f 13⟩] h y = f (y 1) (ix2 (y 0) (0 : Fin 1)) := by
  refine concatenate_ofFn_unit_apply (t := S256x14) (s₁ := S256x1) 1 f h rfl rfl y (y 1) rfl _ ?_
  intro b hb
  match b with
  | ⟨0, _⟩ => rfl
  | ⟨1, _⟩ => exact absurd rfl hb

/-- What a run leaves in the block of scales. -/
theorem out6_eq (c : Dev nD) (i : grid0.Coords) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole) (arg5 : Memref sig .tc .vmem S256x13184 .bf16) (harg5 : arg5.IsWhole) (arg6 : Memref sig .tc .vmem S256x1792 .fp8e4m3) (harg6 : arg6.IsWhole) (arg7 : Memref sig .tc .vmem S256x14 .f32) (harg7 : arg7.IsWhole) (arg8 : Memref sig .tc .vmem S14x256x128 .f32) (harg8 : arg8.IsWhole)
    (x0 : Vec F S256x1792 .bf16) (x1 : Vec F S1792x13184 .fp8e4m3) (x2 : Vec F S14x13184 .f32) (x3 : Vec F S1x13184 .f32) :
    out0_A_6 c i arg1 harg1 arg2 harg2 arg3 harg3 arg4 harg4 arg5 harg5 arg6 harg6 arg7 harg7 arg8 harg8 x0 x1 x2 x3 = Sblk x0 := by
  unfold out0_A_6
  rw [View.read_writes_eq_canon _ _ _ (cover0_A_6 c i arg1 harg1 arg2 harg2 arg3 harg3 arg4 harg4 arg5 harg5 arg6 harg6 arg7 harg7 arg8 harg8 x0 x1 x2 x3)]
  unfold kernelRun0_A
  dsimp only
  unfold kernelRun0_A.sl.H6_1
  rw [View.canon_unit_zero (by exact zero2)]
  funext y
  refine Eq.trans (cols_apply (fun g => gS (readg arg1 harg1 x0 g)) concatenates_S256x1_S256x1_S256x1_S256x1_S256x1_S256x1_S256x1_S256x1_S256x1_S256x1_S256x1_S256x1_S256x1_S256x1_S256x14_d1 y) ?_
  show gS (readg arg1 harg1 x0 (y 1)) _ = gS (colg x0 (y 1)) _
  exact congrFun (congrArg gS (readg_eq arg1 harg1 x0 (y 1))) _

end Cert.Proof

end
-- ==== Proof.Chunk.lean ====
module

public import proofs.«01_k».proof.Proof.Blocks

@[expose] public section

set_option maxRecDepth 16384

noncomputable section

namespace Cert.Proof

open Idealize.ShloMosaic Cert.KernelIdeal Cert.KernelIdeal.Gen

variable {F : FTy → Type} [FloatOps F]

/-- Fourteen terms added up from zero, in order. -/
def yAcc (t : Fin 14 → EReal) : EReal :=
  ((((((((((((((FloatOps.ofBits (F := Ideal) .f32 0x00000000#32 + t 0) + t 1) + t 2) + t 3) + t 4) + t 5) + t 6) + t 7) + t 8) + t 9) + t 10) + t 11) + t 12) + t 13)

/-- Column `k` of group `g`, among all columns. -/
def gcol (g : Fin 14) (k : Fin 128) : Fin 1792 := ⟨128 * g.val + k.val, by omega⟩

/-- One group's contribution to a chunk of 256 columns: the product of codes and weights, scaled by row and by column. -/
def term256 (q : Vec F S256x128 .fp8e4m3) (w : Vec F S128x256 .fp8e4m3) (s : Vec F S1x256x128 .f32) (ws : Vec F S1x256 .f32) : FVec F S256x256 .f32 :=
  mulf (mulf (matmul dot_S256x128_S128x256_S256x256_1_0_0_1_n_n none (shapeCast S256x128 q shapeCasts_S256x128_S256x128) w (constant S256x256 .f32 0x00000000#32))
    (concatenate S256x256 1 [⟨S256x128, shapeCast S256x128 s shapeCasts_S1x256x128_S256x128⟩, ⟨S256x128, shapeCast S256x128 s shapeCasts_S1x256x128_S256x128⟩] concatenates_S256x128_S256x128_S256x256_d1)) (broadcastTo S256x256 (shapeCast S1x256 ws shapeCasts_S1x256_S1x256) broadcasts_S1x256_S256x256)

/-- Fourteen terms of a chunk added up from zero, in order. -/
def sum256 (t : Fin 14 → FVec F S256x256 .f32) : FVec F S256x256 .f32 :=
  (addf (addf (addf (addf (addf (addf (addf (addf (addf (addf (addf (addf (addf (addf (broadcast S256x256 (Scalar.ofBits .f32 0x00000000#32)) (t 0)) (t 1)) (t 2)) (t 3)) (t 4)) (t 5)) (t 6)) (t 7)) (t 8)) (t 9)) (t 10)) (t 11)) (t 12)) (t 13))

/-- A chunk of 256 columns of the product. -/
def chunk256 (q : Fin 14 → Vec F S256x128 .fp8e4m3) (w : Fin 14 → Vec F S128x256 .fp8e4m3) (s : Fin 14 → Vec F S1x256x128 .f32) (ws : Fin 14 → Vec F S1x256 .f32)
    (b : Vec F S1x256 .f32) : FVec F S256x256 .bf16 :=
  truncf .bf16 (addf (sum256 fun g => term256 (q g) (w g) (s g) (ws g)) (broadcastTo S256x256 (shapeCast S1x256 b shapeCasts_S1x256_S1x256) broadcasts_S1x256_S256x256)) bitsLt_bf16_f32

/-- The term of a group at an entry, over the reals. -/
theorem term256_apply (q : Vec Ideal S256x128 .fp8e4m3) (w : Vec Ideal S128x256 .fp8e4m3) (s : Vec Ideal S1x256x128 .f32) (ws : Vec Ideal S1x256 .f32)
    (r : Fin 256) (l : Fin 256) :
    term256 (F := Ideal) q w s ws (ix2 r l) =
      ((∑ k : Fin 128, (q (ix2 r k) : EReal) * (w (ix2 k l) : EReal)) * (s (ix3 (0 : Fin 1) r (⟨l.val % 128, by omega⟩ : Fin 128)) : EReal)) * (ws (ix2 (0 : Fin 1) l) : EReal) := by
  unfold term256
  pointwise
  refine congrArg (· * _) (congrArg _ ?_)
  split
  · next h => exact congrArg s (congrArg (ix3 (0 : Fin 1) r) (Fin.ext (Nat.mod_eq_of_lt h).symm))
  · next h => exact congrArg s (congrArg (ix3 (0 : Fin 1) r) (Fin.ext (show l.val - 128 = l.val % 128 by omega)))

/-- The sum of terms at an entry, over the reals. -/
theorem sum256_apply (t : Fin 14 → FVec Ideal S256x256 .f32) (j : S256x256.Idx) : sum256 (F := Ideal) t j = yAcc fun g => t g j := rfl

/-- A bias row spread over the rows, at an entry. -/
theorem bias256_apply (b : Vec Ideal S1x256 .f32) (r : Fin 256) (l : Fin 256) :
    broadcastTo S256x256 (shapeCast S1x256 b shapeCasts_S1x256_S1x256) broadcasts_S1x256_S256x256 (ix2 r l) = b (ix2 (0 : Fin 1) l) := by
  pointwise

/-- A chunk at an entry, over the reals. -/
theorem chunk256_apply (q : Fin 14 → Vec Ideal S256x128 .fp8e4m3) (w : Fin 14 → Vec Ideal S128x256 .fp8e4m3) (s : Fin 14 → Vec Ideal S1x256x128 .f32)
    (ws : Fin 14 → Vec Ideal S1x256 .f32) (b : Vec Ideal S1x256 .f32) (r : Fin 256) (l : Fin 256) :
    chunk256 (F := Ideal) q w s ws b (ix2 r l) =
      (yAcc fun g => ((∑ k : Fin 128, (q g (ix2 r k) : EReal) * (w g (ix2 k l) : EReal)) * (s g (ix3 (0 : Fin 1) r (⟨l.val % 128, by omega⟩ : Fin 128)) : EReal)) * (ws g (ix2 (0 : Fin 1) l) : EReal))
        + (b (ix2 (0 : Fin 1) l) : EReal) := by
  show (sum256 (F := Ideal) (fun g => term256 (q g) (w g) (s g) (ws g)) (ix2 r l) : EReal) + _ = _
  rw [sum256_apply, bias256_apply]
  refine congrArg (· + _) (congrArg yAcc ?_)
  funext g
  exact term256_apply _ _ _ _ r l

/-- One group's contribution to a chunk of 128 columns: the product of codes and weights, scaled by row and by column. -/
def term128 (q : Vec F S256x128 .fp8e4m3) (w : Vec F S128x128 .fp8e4m3) (s : Vec F S1x256x128 .f32) (ws : Vec F S1x128 .f32) : FVec F S256x128 .f32 :=
  mulf (mulf (matmul dot_S256x128_S128x128_S256x128_1_0_0_1_n_n none (shapeCast S256x128 q shapeCasts_S256x128_S256x128) w (constant S256x128 .f32 0x00000000#32))
    (shapeCast S256x128 s shapeCasts_S1x256x128_S256x128)) (broadcastTo S256x128 (shapeCast S1x128 ws shapeCasts_S1x128_S1x128) broadcasts_S1x128_S256x128)

/-- Fourteen terms of a chunk added up from zero, in order. -/
def sum128 (t : Fin 14 → FVec F S256x128 .f32) : FVec F S256x128 .f32 :=
  (addf (addf (addf (addf (addf (addf (addf (addf (addf (addf (addf (addf (addf (addf (broadcast S256x128 (Scalar.ofBits .f32 0x00000000#32)) (t 0)) (t 1)) (t 2)) (t 3)) (t 4)) (t 5)) (t 6)) (t 7)) (t 8)) (t 9)) (t 10)) (t 11)) (t 12)) (t 13))

/-- A chunk of 128 columns of the product. -/
def chunk128 (q : Fin 14 → Vec F S256x128 .fp8e4m3) (w : Fin 14 → Vec F S128x128 .fp8e4m3) (s : Fin 14 → Vec F S1x256x128 .f32) (ws : Fin 14 → Vec F S1x128 .f32)
    (b : Vec F S1x128 .f32) : FVec F S256x128 .bf16 :=
  truncf .bf16 (addf (sum128 fun g => term128 (q g) (w g) (s g) (ws g)) (broadcastTo S256x128 (shapeCast S1x128 b shapeCasts_S1x128_S1x128) broadcasts_S1x128_S256x128)) bitsLt_bf16_f32

/-- The term of a group at an entry, over the reals. -/
theorem term128_apply (q : Vec Ideal S256x128 .fp8e4m3) (w : Vec Ideal S128x128 .fp8e4m3) (s : Vec Ideal S1x256x128 .f32) (ws : Vec Ideal S1x128 .f32)
    (r : Fin 256) (l : Fin 128) :
    term128 (F := Ideal) q w s ws (ix2 r l) =
      ((∑ k : Fin 128, (q (ix2 r k) : EReal) * (w (ix2 k l) : EReal)) * (s (ix3 (0 : Fin 1) r l) : EReal)) * (ws (ix2 (0 : Fin 1) l) : EReal) := by
  unfold term128
  pointwise

/-- The sum of terms at an entry, over the reals. -/
theorem sum128_apply (t : Fin 14 → FVec Ideal S256x128 .f32) (j : S256x128.Idx) : sum128 (F := Ideal) t j = yAcc fun g => t g j := rfl

/-- A bias row spread over the rows, at an entry. -/
theorem bias128_apply (b : Vec Ideal S1x128 .f32) (r : Fin 256) (l : Fin 128) :
    broadcastTo S256x128 (shapeCast S1x128 b shapeCasts_S1x128_S1x128) broadcasts_S1x128_S256x128 (ix2 r l) = b (ix2 (0 : Fin 1) l) := by
  pointwise

/-- A chunk at an entry, over the reals. -/
theorem chunk128_apply (q : Fin 14 → Vec Ideal S256x128 .fp8e4m3) (w : Fin 14 → Vec Ideal S128x128 .fp8e4m3) (s : Fin 14 → Vec Ideal S1x256x128 .f32)
    (ws : Fin 14 → Vec Ideal S1x128 .f32) (b : Vec Ideal S1x128 .f32) (r : Fin 256) (l : Fin 128) :
    chunk128 (F := Ideal) q w s ws b (ix2 r l) =
      (yAcc fun g => ((∑ k : Fin 128, (q g (ix2 r k) : EReal) * (w g (ix2 k l) : EReal)) * (s g (ix3 (0 : Fin 1) r l) : EReal)) * (ws g (ix2 (0 : Fin 1) l) : EReal))
        + (b (ix2 (0 : Fin 1) l) : EReal) := by
  show (sum128 (F := Ideal) (fun g => term128 (q g) (w g) (s g) (ws g)) (ix2 r l) : EReal) + _ = _
  rw [sum128_apply, bias128_apply]
  refine congrArg (· + _) (congrArg yAcc ?_)
  funext g
  exact term128_apply _ _ _ _ r l

end Cert.Proof

end
-- ==== Proof.Trip.lean ====
module

public import proofs.«01_k».proof.Proof.Chunk

@[expose] public section

set_option maxRecDepth 16384

noncomputable section

namespace Cert.Proof

open Idealize.ShloMosaic Cert.KernelIdeal Cert.KernelIdeal.Gen

variable {F : FTy → Type} [FloatOps F]

theorem inb_s (g : Fin 14) : ∀ a : Fin S14x256x128.rank, (![g.val, 0, 0] : Fin 3 → Nat) a + S1x256x128.size a ≤ S14x256x128.size a := by
  intro a
  match a with
  | ⟨0, _⟩ => show g.val + 1 ≤ 14; omega
  | ⟨1, _⟩ => exact Nat.le_refl 256
  | ⟨2, _⟩ => exact Nat.le_refl 128

theorem inb_w256 (g : Fin 14) (c : Nat) (h : c + 256 ≤ 13184) : ∀ a : Fin S1792x13184.rank, (![128 * g.val, c] : Fin 2 → Nat) a + S128x256.size a ≤ S1792x13184.size a := by
  intro a
  match a with
  | ⟨0, _⟩ => show 128 * g.val + 128 ≤ 1792; omega
  | ⟨1, _⟩ => exact h

theorem inb_ws256 (g : Fin 14) (c : Nat) (h : c + 256 ≤ 13184) : ∀ a : Fin S14x13184.rank, (![g.val, c] : Fin 2 → Nat) a + S1x256.size a ≤ S14x13184.size a := by
  intro a
  match a with
  | ⟨0, _⟩ => show g.val + 1 ≤ 14; omega
  | ⟨1, _⟩ => exact h

theorem inb_b256 (c : Nat) (h : c + 256 ≤ 13184) : ∀ a : Fin S1x13184.rank, (![0, c] : Fin 2 → Nat) a + S1x256.size a ≤ S1x13184.size a := by
  intro a
  match a with
  | ⟨0, _⟩ => exact Nat.le_refl 1
  | ⟨1, _⟩ => exact h

theorem inb_y256 (c : Nat) (h : c + 256 ≤ 13184) : ∀ a : Fin S256x13184.rank, (![0, c] : Fin 2 → Nat) a + S256x256.size a ≤ S256x13184.size a := by
  intro a
  match a with
  | ⟨0, _⟩ => exact Nat.le_refl 256
  | ⟨1, _⟩ => exact h

/-- The chunk of 256 columns at column `c`, as the kernel computes it from what the references hold. -/
def rchunk256 (arg2 : Memref sig .tc .vmem S1792x13184 .fp8e4m3) (arg3 : Memref sig .tc .vmem S14x13184 .f32) (arg4 : Memref sig .tc .vmem S1x13184 .f32)
    (arg6 : Memref sig .tc .vmem S256x1792 .fp8e4m3) (arg8 : Memref sig .tc .vmem S14x256x128 .f32)
    (X2 : BufTy.Contents (Elt F) arg2.view.ty) (X3 : BufTy.Contents (Elt F) arg3.view.ty) (X4 : BufTy.Contents (Elt F) arg4.view.ty)
    (X6 : BufTy.Contents (Elt F) arg6.view.ty) (X8 : BufTy.Contents (Elt F) arg8.view.ty) (c : Nat) (h : c + 256 ≤ 13184) : FVec F S256x256 .bf16 :=
  chunk256
    (fun g => View.readAt (Elt F) arg6.view (Rect.unit (s := S256x1792) ![0, 128 * g.val] S256x128.size (inbg g)).toLoadRect X6)
    (fun g => View.readAt (Elt F) arg2.view (Rect.unit (s := S1792x13184) ![128 * g.val, c] S128x256.size (inb_w256 g c h)).toLoadRect X2)
    (fun g => View.readAt (Elt F) arg8.view (Rect.unit (s := S14x256x128) ![g.val, 0, 0] S1x256x128.size (inb_s g)).toLoadRect X8)
    (fun g => View.readAt (Elt F) arg3.view (Rect.unit (s := S14x13184) ![g.val, c] S1x256.size (inb_ws256 g c h)).toLoadRect X3)
    (View.readAt (Elt F) arg4.view (Rect.unit (s := S1x13184) ![0, c] S1x256.size (inb_b256 c h)).toLoadRect X4)

theorem inb_w128 (g : Fin 14) (c : Nat) (h : c + 128 ≤ 13184) : ∀ a : Fin S1792x13184.rank, (![128 * g.val, c] : Fin 2 → Nat) a + S128x128.size a ≤ S1792x13184.size a := by
  intro a
  match a with
  | ⟨0, _⟩ => show 128 * g.val + 128 ≤ 1792; omega
  | ⟨1, _⟩ => exact h

theorem inb_ws128 (g : Fin 14) (c : Nat) (h : c + 128 ≤ 13184) : ∀ a : Fin S14x13184.rank, (![g.val, c] : Fin 2 → Nat) a + S1x128.size a ≤ S14x13184.size a := by
  intro a
  match a with
  | ⟨0, _⟩ => show g.val + 1 ≤ 14; omega
  | ⟨1, _⟩ => exact h

theorem inb_b128 (c : Nat) (h : c + 128 ≤ 13184) : ∀ a : Fin S1x13184.rank, (![0, c] : Fin 2 → Nat) a + S1x128.size a ≤ S1x13184.size a := by
  intro a
  match a with
  | ⟨0, _⟩ => exact Nat.le_refl 1
  | ⟨1, _⟩ => exact h

theorem inb_y128 (c : Nat) (h : c + 128 ≤ 13184) : ∀ a : Fin S256x13184.rank, (![0, c] : Fin 2 → Nat) a + S256x128.size a ≤ S256x13184.size a := by
  intro a
  match a with
  | ⟨0, _⟩ => exact Nat.le_refl 256
  | ⟨1, _⟩ => exact h

/-- The chunk of 128 columns at column `c`, as the kernel computes it from what the references hold. -/
def rchunk128 (arg2 : Memref sig .tc .vmem S1792x13184 .fp8e4m3) (arg3 : Memref sig .tc .vmem S14x13184 .f32) (arg4 : Memref sig .tc .vmem S1x13184 .f32)
    (arg6 : Memref sig .tc .vmem S256x1792 .fp8e4m3) (arg8 : Memref sig .tc .vmem S14x256x128 .f32)
    (X2 : BufTy.Contents (Elt F) arg2.view.ty) (X3 : BufTy.Contents (Elt F) arg3.view.ty) (X4 : BufTy.Contents (Elt F) arg4.view.ty)
    (X6 : BufTy.Contents (Elt F) arg6.view.ty) (X8 : BufTy.Contents (Elt F) arg8.view.ty) (c : Nat) (h : c + 128 ≤ 13184) : FVec F S256x128 .bf16 :=
  chunk128
    (fun g => View.readAt (Elt F) arg6.view (Rect.unit (s := S256x1792) ![0, 128 * g.val] S256x128.size (inbg g)).toLoadRect X6)
    (fun g => View.readAt (Elt F) arg2.view (Rect.unit (s := S1792x13184) ![128 * g.val, c] S128x128.size (inb_w128 g c h)).toLoadRect X2)
    (fun g => View.readAt (Elt F) arg8.view (Rect.unit (s := S14x256x128) ![g.val, 0, 0] S1x256x128.size (inb_s g)).toLoadRect X8)
    (fun g => View.readAt (Elt F) arg3.view (Rect.unit (s := S14x13184) ![g.val, c] S1x128.size (inb_ws128 g c h)).toLoadRect X3)
    (View.readAt (Elt F) arg4.view (Rect.unit (s := S1x13184) ![0, c] S1x128.size (inb_b128 c h)).toLoadRect X4)

theorem trip_col (k : Fin k0_t1_loop.trips) : k0_off30 k 1 + 256 ≤ 13184 := k0_off30_inb k 1

/-- One trip of the loop writes one chunk of 256 columns. -/
theorem trip_piece (𝒱 : Variants) (c : Dev nD) (bd : Option 𝒱.V) (i : grid0.Coords) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole) (arg5 : Memref sig .tc .vmem S256x13184 .bf16) (harg5 : arg5.IsWhole) (arg6 : Memref sig .tc .vmem S256x1792 .fp8e4m3) (harg6 : arg6.IsWhole) (arg7 : Memref sig .tc .vmem S256x14 .f32) (harg7 : arg7.IsWhole) (arg8 : Memref sig .tc .vmem S14x256x128 .f32) (harg8 : arg8.IsWhole) (v76 : FVec F S256x1 .f32) (v171 : FVec F S256x1 .f32) (v266 : FVec F S256x1 .f32) (v361 : FVec F S256x1 .f32) (v456 : FVec F S256x1 .f32) (v551 : FVec F S256x1 .f32) (v646 : FVec F S256x1 .f32) (v741 : FVec F S256x1 .f32) (v836 : FVec F S256x1 .f32) (v931 : FVec F S256x1 .f32) (v1026 : FVec F S256x1 .f32) (v1121 : FVec F S256x1 .f32) (v1216 : FVec F S256x1 .f32) (v1237 : FVec F S256x128 .f32) (v1243 : FVec F S256x1 .f32) (v1293 : IVec S256x1 32) (v1295 : IVec S256x1 32) (v1296 : IVec S256x1 32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg8 : BufTy.Contents (Elt F) arg8.view.ty) (k : Fin k0_t1_loop.trips) :
    tripL_k0_t1 𝒱 c bd i arg1 harg1 arg2 harg2 arg3 harg3 arg4 harg4 arg5 harg5 arg6 harg6 arg7 harg7 arg8 harg8 v76 v171 v266 v361 v456 v551 v646 v741 v836 v931 v1026 v1121 v1216 v1237 v1243 v1293 v1295 v1296 X_arg2 X_arg3 X_arg4 X_arg6 X_arg8 k =
      [⟨Rect.unit (s := S256x13184) ![0, k0_off30 k 1] S256x256.size (inb_y256 _ (trip_col k)),
        rchunk256 arg2 arg3 arg4 arg6 arg8 X_arg2 X_arg3 X_arg4 X_arg6 X_arg8 (k0_off30 k 1) (trip_col k)⟩] := by
  unfold tripL_k0_t1 trip_k0_t1
  rfl

end Cert.Proof

end
-- ==== Proof.OutY.lean ====
module

public import proofs.«01_k».proof.Proof.Trip

@[expose] public section

set_option maxRecDepth 16384

noncomputable section

namespace Cert.Proof

open Idealize.ShloMosaic Cert.KernelIdeal Cert.KernelIdeal.Gen

/-- The block of the product a run computes, entry by entry. -/
def Yblk (x0 : Vec Ideal S256x1792 .bf16) (x1 : Vec Ideal S1792x13184 .fp8e4m3) (x2 : Vec Ideal S14x13184 .f32) (x3 : Vec Ideal S1x13184 .f32) :
    Vec Ideal S256x13184 .bf16 := fun y =>
  (yAcc fun g => ((∑ k : Fin 128, (Qblk x0 (ix2 (y 0) (gcol g k)) : EReal) * (x1 (ix2 (gcol g k) (y 1)) : EReal)) * (Sblk x0 (ix2 (y 0) g) : EReal)) * (x2 (ix2 g (y 1)) : EReal))
    + (x3 (ix2 (0 : Fin 1) (y 1)) : EReal)

/-- What a chunk of 256 columns at column `n` holds is that part of the product's block. -/
theorem rchunk256_eq (c : Dev nD) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole)
    (arg6 : Memref sig .tc .vmem S256x1792 .fp8e4m3) (arg8 : Memref sig .tc .vmem S14x256x128 .f32)
    (x0 : Vec Ideal S256x1792 .bf16) (x1 : Vec Ideal S1792x13184 .fp8e4m3) (x2 : Vec Ideal S14x13184 .f32) (x3 : Vec Ideal S1x13184 .f32)
    (n : Nat) (h : n + 256 ≤ 13184) (x : S256x256.Idx) :
    rchunk256 (F := Ideal) arg2 arg3 arg4 arg6 arg8 (harg2.unread x1) (harg3.unread x2) (harg4.unread x3) (arg6.view.writes (Elt Ideal) arg6.view.junk (kernelRun0_A.sl.H5_14 c arg1 harg1 x0)) (arg8.view.writes (Elt Ideal) arg8.view.junk (kernelRun0_A.sl.HS0_14 c arg1 harg1 x0)) n h x
      = Yblk x0 x1 x2 x3 ((Rect.unit (s := S256x13184) ![0, n] S256x256.size (inb_y256 n h)).emb x) := by
  have hx : (x 1).val < 256 := (x 1).isLt
  have e0 : (Rect.unit (s := S256x13184) ![0, n] S256x256.size (inb_y256 n h)).emb x 0 = x 0 :=
    Fin.ext (show 0 + 1 * (x 0).val = (x 0).val by omega)
  have e1 : (Rect.unit (s := S256x13184) ![0, n] S256x256.size (inb_y256 n h)).emb x 1 = (⟨n + (x 1).val, by omega⟩ : Fin 13184) :=
    Fin.ext (show n + 1 * (x 1).val = n + (x 1).val by omega)
  unfold Yblk
  rw [e0, e1]
  obtain ⟨r, l, rfl⟩ : ∃ (r : Fin 256) (l : Fin 256), x = ix2 r l := ⟨x 0, x 1, eq_ix2 x⟩
  unfold rchunk256
  refine (chunk256_apply _ _ _ _ _ r l).trans ?_
  refine congrArg₂ (fun a b : EReal => a + b) (congrArg yAcc ?_) ?_
  · funext g
    refine congrArg₂ (fun a b : EReal => a * b) (congrArg₂ (fun a b : EReal => a * b) (Finset.sum_congr rfl fun k _ => congrArg₂ (fun a b : EReal => a * b) ?_ ?_) ?_) ?_
    · rw [View.readAt_writes_junk_eq_canon, codes_eq]
      refine congrArg (Qblk x0) ?_
      funext a
      apply Fin.ext
      match a with
      | ⟨0, _⟩ => show 0 + 1 * r.val = r.val; omega
      | ⟨1, _⟩ => show 128 * g.val + 1 * k.val = 128 * g.val + k.val; omega
    · rw [View.readAt_eq_ld, harg2.read_unread]
      refine congrArg x1 ?_
      funext a
      apply Fin.ext
      match a with
      | ⟨0, _⟩ => show 128 * g.val + 1 * k.val = 128 * g.val + k.val; omega
      | ⟨1, _⟩ => show n + 1 * l.val = n + l.val; omega
    · rw [View.readAt_writes_junk_eq_canon, spread_eq]
      show gS (colg x0 _) (ix2 _ _) = gS (colg x0 g) (ix2 r _)
      refine congrArg₂ (fun g' r' => gS (colg x0 g') (ix2 r' (0 : Fin 1))) ?_ ?_
      · exact Fin.ext (show g.val + 1 * 0 = g.val by omega)
      · exact Fin.ext (show 0 + 1 * r.val = r.val by omega)
    · rw [View.readAt_eq_ld, harg3.read_unread]
      refine congrArg x2 ?_
      funext a
      apply Fin.ext
      match a with
      | ⟨0, _⟩ => show g.val + 1 * 0 = g.val; omega
      | ⟨1, _⟩ => show n + 1 * l.val = n + l.val; omega
  · rw [View.readAt_eq_ld, harg4.read_unread]
    refine congrArg x3 ?_
    funext a
    apply Fin.ext
    match a with
    | ⟨0, _⟩ => show 0 + 1 * 0 = 0; omega
    | ⟨1, _⟩ => show n + 1 * l.val = n + l.val; omega

/-- What a chunk of 128 columns at column `n` holds is that part of the product's block. -/
theorem rchunk128_eq (c : Dev nD) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole)
    (arg6 : Memref sig .tc .vmem S256x1792 .fp8e4m3) (arg8 : Memref sig .tc .vmem S14x256x128 .f32)
    (x0 : Vec Ideal S256x1792 .bf16) (x1 : Vec Ideal S1792x13184 .fp8e4m3) (x2 : Vec Ideal S14x13184 .f32) (x3 : Vec Ideal S1x13184 .f32)
    (n : Nat) (h : n + 128 ≤ 13184) (x : S256x128.Idx) :
    rchunk128 (F := Ideal) arg2 arg3 arg4 arg6 arg8 (harg2.unread x1) (harg3.unread x2) (harg4.unread x3) (arg6.view.writes (Elt Ideal) arg6.view.junk (kernelRun0_A.sl.H5_14 c arg1 harg1 x0)) (arg8.view.writes (Elt Ideal) arg8.view.junk (kernelRun0_A.sl.HS0_14 c arg1 harg1 x0)) n h x
      = Yblk x0 x1 x2 x3 ((Rect.unit (s := S256x13184) ![0, n] S256x128.size (inb_y128 n h)).emb x) := by
  have hx : (x 1).val < 128 := (x 1).isLt
  have e0 : (Rect.unit (s := S256x13184) ![0, n] S256x128.size (inb_y128 n h)).emb x 0 = x 0 :=
    Fin.ext (show 0 + 1 * (x 0).val = (x 0).val by omega)
  have e1 : (Rect.unit (s := S256x13184) ![0, n] S256x128.size (inb_y128 n h)).emb x 1 = (⟨n + (x 1).val, by omega⟩ : Fin 13184) :=
    Fin.ext (show n + 1 * (x 1).val = n + (x 1).val by omega)
  unfold Yblk
  rw [e0, e1]
  obtain ⟨r, l, rfl⟩ : ∃ (r : Fin 256) (l : Fin 128), x = ix2 r l := ⟨x 0, x 1, eq_ix2 x⟩
  unfold rchunk128
  refine (chunk128_apply _ _ _ _ _ r l).trans ?_
  refine congrArg₂ (fun a b : EReal => a + b) (congrArg yAcc ?_) ?_
  · funext g
    refine congrArg₂ (fun a b : EReal => a * b) (congrArg₂ (fun a b : EReal => a * b) (Finset.sum_congr rfl fun k _ => congrArg₂ (fun a b : EReal => a * b) ?_ ?_) ?_) ?_
    · rw [View.readAt_writes_junk_eq_canon, codes_eq]
      refine congrArg (Qblk x0) ?_
      funext a
      apply Fin.ext
      match a with
      | ⟨0, _⟩ => show 0 + 1 * r.val = r.val; omega
      | ⟨1, _⟩ => show 128 * g.val + 1 * k.val = 128 * g.val + k.val; omega
    · rw [View.readAt_eq_ld, harg2.read_unread]
      refine congrArg x1 ?_
      funext a
      apply Fin.ext
      match a with
      | ⟨0, _⟩ => show 128 * g.val + 1 * k.val = 128 * g.val + k.val; omega
      | ⟨1, _⟩ => show n + 1 * l.val = n + l.val; omega
    · rw [View.readAt_writes_junk_eq_canon, spread_eq]
      show gS (colg x0 _) (ix2 _ _) = gS (colg x0 g) (ix2 r _)
      refine congrArg₂ (fun g' r' => gS (colg x0 g') (ix2 r' (0 : Fin 1))) ?_ ?_
      · exact Fin.ext (show g.val + 1 * 0 = g.val by omega)
      · exact Fin.ext (show 0 + 1 * r.val = r.val by omega)
    · rw [View.readAt_eq_ld, harg3.read_unread]
      refine congrArg x2 ?_
      funext a
      apply Fin.ext
      match a with
      | ⟨0, _⟩ => show g.val + 1 * 0 = g.val; omega
      | ⟨1, _⟩ => show n + 1 * l.val = n + l.val; omega
  · rw [View.readAt_eq_ld, harg4.read_unread]
    refine congrArg x3 ?_
    funext a
    apply Fin.ext
    match a with
    | ⟨0, _⟩ => show 0 + 1 * 0 = 0; omega
    | ⟨1, _⟩ => show n + 1 * l.val = n + l.val; omega

/-- Every piece the loop wrote before trip `n` is a part of the product's block. -/
theorem loop_pieces (𝒱 : Variants) (c : Dev nD) (bd : Option 𝒱.V) (i : grid0.Coords) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole) (arg5 : Memref sig .tc .vmem S256x13184 .bf16) (harg5 : arg5.IsWhole) (arg6 : Memref sig .tc .vmem S256x1792 .fp8e4m3) (harg6 : arg6.IsWhole) (arg7 : Memref sig .tc .vmem S256x14 .f32) (harg7 : arg7.IsWhole) (arg8 : Memref sig .tc .vmem S14x256x128 .f32) (harg8 : arg8.IsWhole) (v76 : FVec Ideal S256x1 .f32) (v171 : FVec Ideal S256x1 .f32) (v266 : FVec Ideal S256x1 .f32) (v361 : FVec Ideal S256x1 .f32) (v456 : FVec Ideal S256x1 .f32) (v551 : FVec Ideal S256x1 .f32) (v646 : FVec Ideal S256x1 .f32) (v741 : FVec Ideal S256x1 .f32) (v836 : FVec Ideal S256x1 .f32) (v931 : FVec Ideal S256x1 .f32) (v1026 : FVec Ideal S256x1 .f32) (v1121 : FVec Ideal S256x1 .f32) (v1216 : FVec Ideal S256x1 .f32) (v1237 : FVec Ideal S256x128 .f32) (v1243 : FVec Ideal S256x1 .f32) (v1293 : IVec S256x1 32) (v1295 : IVec S256x1 32) (v1296 : IVec S256x1 32)  (x0 : Vec Ideal S256x1792 .bf16) (x1 : Vec Ideal S1792x13184 .fp8e4m3) (x2 : Vec Ideal S14x13184 .f32) (x3 : Vec Ideal S1x13184 .f32) (n : Nat) (hn : n ≤ k0_t1_loop.trips) :
    ∀ p ∈ pb_k0_t1 𝒱 c bd i arg1 harg1 arg2 harg2 arg3 harg3 arg4 harg4 arg5 harg5 arg6 harg6 arg7 harg7 arg8 harg8 v76 v171 v266 v361 v456 v551 v646 v741 v836 v931 v1026 v1121 v1216 v1237 v1243 v1293 v1295 v1296 (harg2.unread x1) (harg3.unread x2) (harg4.unread x3) (arg6.view.writes (Elt Ideal) arg6.view.junk (kernelRun0_A.sl.H5_14 c arg1 harg1 x0)) (arg8.view.writes (Elt Ideal) arg8.view.junk (kernelRun0_A.sl.HS0_14 c arg1 harg1 x0)) n, ∀ x, p.2 x = Yblk x0 x1 x2 x3 (p.1.emb x) := by
  induction n with
  | zero => exact fun p hp => absurd hp List.not_mem_nil
  | succ n ih =>
    have e := pb_k0_t1_succ 𝒱 c bd i arg1 harg1 arg2 harg2 arg3 harg3 arg4 harg4 arg5 harg5 arg6 harg6 arg7 harg7 arg8 harg8 v76 v171 v266 v361 v456 v551 v646 v741 v836 v931 v1026 v1121 v1216 v1237 v1243 v1293 v1295 v1296 (harg2.unread x1) (harg3.unread x2) (harg4.unread x3) (arg6.view.writes (Elt Ideal) arg6.view.junk (kernelRun0_A.sl.H5_14 c arg1 harg1 x0)) (arg8.view.writes (Elt Ideal) arg8.view.junk (kernelRun0_A.sl.HS0_14 c arg1 harg1 x0)) ⟨n, hn⟩
    rw [trip_piece] at e
    intro p hp
    rw [e] at hp
    rcases List.mem_cons.1 hp with rfl | hp
    · exact fun x => rchunk256_eq c arg1 harg1 arg2 harg2 arg3 harg3 arg4 harg4 arg6 arg8 x0 x1 x2 x3 _ (trip_col ⟨n, hn⟩) x
    · exact ih (Nat.le_of_succ_le hn) p hp

/-- What a run leaves in the block of the product. -/
theorem out4_eq (c : Dev nD) (i : grid0.Coords) (arg1 : Memref sig .tc .vmem S256x1792 .bf16) (harg1 : arg1.IsWhole) (arg2 : Memref sig .tc .vmem S1792x13184 .fp8e4m3) (harg2 : arg2.IsWhole) (arg3 : Memref sig .tc .vmem S14x13184 .f32) (harg3 : arg3.IsWhole) (arg4 : Memref sig .tc .vmem S1x13184 .f32) (harg4 : arg4.IsWhole) (arg5 : Memref sig .tc .vmem S256x13184 .bf16) (harg5 : arg5.IsWhole) (arg6 : Memref sig .tc .vmem S256x1792 .fp8e4m3) (harg6 : arg6.IsWhole) (arg7 : Memref sig .tc .vmem S256x14 .f32) (harg7 : arg7.IsWhole) (arg8 : Memref sig .tc .vmem S14x256x128 .f32) (harg8 : arg8.IsWhole)
    (x0 : Vec Ideal S256x1792 .bf16) (x1 : Vec Ideal S1792x13184 .fp8e4m3) (x2 : Vec Ideal S14x13184 .f32) (x3 : Vec Ideal S1x13184 .f32) :
    out0_A_4 (F := Ideal) c i arg1 harg1 arg2 harg2 arg3 harg3 arg4 harg4 arg5 harg5 arg6 harg6 arg7 harg7 arg8 harg8 x0 x1 x2 x3 = Yblk x0 x1 x2 x3 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  funext y
  refine View.canon_apply_of_pieces _ _ ?_ y (cover0_A_4 c i arg1 harg1 arg2 harg2 arg3 harg3 arg4 harg4 arg5 harg5 arg6 harg6 arg7 harg7 arg8 harg8 x0 x1 x2 x3 y)
  unfold kernelRun0_A
  dsimp only
  refine List.forall_mem_cons.2 ⟨?_, ?_⟩
  · intro x
    exact (congrFun (rfl : _ = rchunk128 (F := Ideal) arg2 arg3 arg4 arg6 arg8 (harg2.unread x1) (harg3.unread x2) (harg4.unread x3) (arg6.view.writes (Elt Ideal) arg6.view.junk (kernelRun0_A.sl.H5_14 c arg1 harg1 x0)) (arg8.view.writes (Elt Ideal) arg8.view.junk (kernelRun0_A.sl.HS0_14 c arg1 harg1 x0)) 13056 (by omega)) x).trans
      (rchunk128_eq c arg1 harg1 arg2 harg2 arg3 harg3 arg4 harg4 arg6 arg8 x0 x1 x2 x3 13056 (by omega) x)
  · exact loop_pieces _ _ _ _ _ _ _ _ _ _ _ _ _ _ _ _ _ _ _ _ _ _ _ _ _ _ _ _ _ _ _ _ _ _ _ _ _ _ x0 x1 x2 x3 _ (Nat.le_refl _)

end Cert.Proof

end
-- ==== Proof.Spec.lean ====
module

public import proofs.«01_k».proof.Proof.OutY

@[expose] public section

set_option maxRecDepth 16384

noncomputable section

namespace Cert.Proof

open Idealize.ShloMosaic

/-- The largest absolute value of a group of 128 entries. -/
def amax (f : Fin 128 → EReal) : EReal :=
  Finset.univ.fold max (FloatOps.ofBits (F := Ideal) .f32 0xFF800000#32) fun k => FloatOps.absf (F := Ideal) (φ := .f32) (f k)

/-- The largest absolute value of a group times `1 / 448`. -/
def vOf (f : Fin 128 → EReal) : EReal := amax f * FloatOps.ofBits (F := Ideal) .f32 0x3B124925#32

/-- The kernel's scale of a group. -/
def kS (f : Fin 128 → EReal) : EReal := scaleOf (F := Ideal) (FloatOps.absf (F := Ideal) (φ := .f32) (vOf f))

/-- The kernel's inverse scale of a group. -/
def kI (f : Fin 128 → EReal) : EReal := invOf (F := Ideal) (FloatOps.absf (F := Ideal) (φ := .f32) (vOf f))

/-- The code of an entry: the entry times the inverse scale, clipped to the range of the format. -/
def cd (x s : EReal) : EReal :=
  min (FloatOps.ofBits (F := Ideal) .f32 0x43E00000#32) (max (FloatOps.ofBits (F := Ideal) .f32 0xC3E00000#32) (x * s))

/-- Group `g` of a row of 1792 entries. -/
def grow (f : Fin 1792 → EReal) (g : Fin 14) : Fin 128 → EReal := fun k => f (gcol g k)

theorem gcol_grp_pos (k : Fin 1792) : gcol (grp k) (pos k) = k := Fin.ext (Nat.div_add_mod k.val 128)

theorem grp_gcol (g : Fin 14) (k : Fin 128) : grp (gcol g k) = g :=
  Fin.ext (show (128 * g.val + k.val) / 128 = g.val by omega)

/-- Entry `k` of the codes of a row, with inverse scales `I`. -/
def codeAt (I : (Fin 128 → EReal) → EReal) (f : Fin 1792 → EReal) (k : Fin 1792) : EReal := cd (f k) (I (grow f (grp k)))

/-- An entry of the product, from a row of inputs, a column of weights, a column of weight scales and a bias, with scales `S` and
    inverse scales `I`. -/
def yAt (S I : (Fin 128 → EReal) → EReal) (f : Fin 1792 → EReal) (w : Fin 1792 → EReal) (ws : Fin 14 → EReal) (b : EReal) : EReal :=
  (yAcc fun g => ((∑ k : Fin 128, codeAt I f (gcol g k) * w (gcol g k)) * S (grow f g)) * ws g) + b

end Cert.Proof

namespace Cert.Proof

open Idealize.ShloMosaic Cert.KernelIdeal Cert.KernelIdeal.Gen

theorem gM_apply (X : FVec Ideal S256x128 .bf16) (r : Fin 256) :
    gM (F := Ideal) X (ix2 r (0 : Fin 1)) = FloatOps.absf (F := Ideal) (φ := .f32) (vOf fun k => X (ix2 r k)) := by
  unfold gM vOf amax
  pointwise

theorem gQ_apply (X : FVec Ideal S256x128 .bf16) (r : Fin 256) (k : Fin 128) :
    gQ (F := Ideal) X (ix2 r k) = cd (X (ix2 r k)) (kI fun k => X (ix2 r k)) := by
  have h : gI (F := Ideal) X (ix2 r (0 : Fin 1)) = kI fun k => X (ix2 r k) := by rw [gI_apply, gM_apply]; rfl
  rw [← h]
  unfold gQ cd
  pointwise

/-- An entry of a block's codes. -/
theorem Qblk_apply (x0 : Vec Ideal S256x1792 .bf16) (r : Fin 256) (k : Fin 1792) :
    Qblk (F := Ideal) x0 (ix2 r k) = codeAt kI (fun k => x0 (ix2 r k)) k := by
  refine (gQ_apply (colg x0 (grp k)) r (pos k)).trans ?_
  exact congrArg (fun k' => cd (x0 (ix2 r k')) (kI (grow (fun k => x0 (ix2 r k)) (grp k)))) (gcol_grp_pos k)

/-- An entry of a block's scales. -/
theorem Sblk_apply (x0 : Vec Ideal S256x1792 .bf16) (r : Fin 256) (g : Fin 14) :
    Sblk (F := Ideal) x0 (ix2 r g) = kS (grow (fun k => x0 (ix2 r k)) g) := by
  show gS (colg x0 g) (ix2 r (0 : Fin 1)) = _
  rw [gS_apply, gM_apply]
  rfl

/-- An entry of a block's product. -/
theorem Yblk_apply (x0 : Vec Ideal S256x1792 .bf16) (x1 : Vec Ideal S1792x13184 .fp8e4m3) (x2 : Vec Ideal S14x13184 .f32) (x3 : Vec Ideal S1x13184 .f32)
    (r : Fin 256) (c : Fin 13184) :
    Yblk x0 x1 x2 x3 (ix2 r c) =
      yAt kS kI (fun k => x0 (ix2 r k)) (fun k => x1 (ix2 k c)) (fun g => x2 (ix2 g c)) (x3 (ix2 (0 : Fin 1) c)) := by
  show (yAcc fun g => ((∑ k : Fin 128, (Qblk x0 (ix2 r (gcol g k)) : EReal) * (x1 (ix2 (gcol g k) c) : EReal)) * (Sblk x0 (ix2 r g) : EReal)) * (x2 (ix2 g c) : EReal))
    + (x3 (ix2 (0 : Fin 1) c) : EReal) = _
  simp only [Qblk_apply, Sblk_apply]
  rfl

end Cert.Proof

end
-- ==== Proof.RGen.lean ====
module

public import proofs.«01_k».proof.Proof.Spec
public import Idealize.ShloMosaic.Lib.MatmulPlain

@[expose] public section

set_option maxRecDepth 16384

noncomputable section

namespace Cert.Proof

open Idealize.ShloMosaic

/-- The reference's scale of a group. -/
def rS (f : Fin 128 → EReal) : EReal := FloatOps.exp2 (F := Ideal) (φ := .f32) (refExp (vOf f))

/-- The reference's inverse scale of a group. -/
def rI (f : Fin 128 → EReal) : EReal :=
  FloatOps.exp2 (F := Ideal) (φ := .f32) (FloatOps.subf (FloatOps.ofBits .f32 0x00000000#32) (refExp (vOf f)))

end Cert.Proof

namespace Cert.Proof.R

open Idealize.ShloMosaic

/-! The reference's operations read at an entry, for any number of rows `M` and columns `N`. -/

section Any

variable {M N : Nat} {s : Shape}

theorem row_if {K : Nat} (r : Fin K) : (if K = 1 then 0 else r.val) = r.val := by split <;> omega

theorem exp2_at (v : FVec Ideal s .f32) (j : s.Idx) : exp2 v j = FloatOps.exp2 (F := Ideal) (φ := .f32) (v j) := rfl

theorem neg_at (v : FVec Ideal s .f32) (j : s.Idx) :
    exp2 (subf (broadcast s (Scalar.ofBits .f32 0x00000000#32)) v) j
      = FloatOps.exp2 (F := Ideal) (φ := .f32) (FloatOps.subf (FloatOps.ofBits .f32 0x00000000#32) (v j)) := rfl

/-- The exponents of the values `v`. -/
def expo (v : FVec Ideal s .f32) : FVec Ideal s .f32 :=
  select (cmpf .olt v (broadcast s (Scalar.ofBits .f32 0x00800000#32))) (broadcast s (Scalar.ofBits .f32 0x00000000#32))
    (addf (floor (divf (log v) (broadcast s (Scalar.log (Scalar.ofBits .f32 0x40000000#32))))) (broadcast s (Scalar.ofBits .f32 0x3F800000#32)))

theorem expo_at (v : FVec Ideal s .f32) (j : s.Idx) : expo v j = refExp (v j) := rfl

theorem mulc_at (v : FVec Ideal s .f32) (j : s.Idx) :
    mulf v (broadcast s (Scalar.ofBits .f32 0x3B124925#32)) j = v j * FloatOps.ofBits (F := Ideal) .f32 0x3B124925#32 := rfl

/-- The largest absolute value of a group, times `1 / 448`. -/
theorem vmax_at (x : FVec Ideal ⟨3, ![M, 14, 128]⟩ .bf16) (hb : FTy.bits .bf16 < FTy.bits .f32)
    (h : (⟨3, ![M, 14, 128]⟩ : Shape).Reduces [2] ⟨2, ![M, 14]⟩) (hφ : FKind.Formats .f32)
    (hacc : 0xFF800000#32 = FKind.maximumf.neutral .f32 hφ) (r : Fin M) (g : Fin 14) :
    mulf (multiReduction .maximumf [2] ⟨2, ![M, 14]⟩ (absf (extf .f32 x hb)) 0xFF800000#32 h hφ hacc) (broadcast _ (Scalar.ofBits .f32 0x3B124925#32)) (ix2 r g)
      = vOf fun k => x (ix3 r g k) := by
  rw [mulc_at, Ideal.multiReduction_maximumf_single]
  unfold vOf amax
  refine congrArg (fun f : Fin 128 → EReal => Finset.univ.fold max (FloatOps.ofBits (F := Ideal) .f32 0xFF800000#32) f * FloatOps.ofBits (F := Ideal) .f32 0x3B124925#32) ?_
  funext k
  refine congrArg (fun i => FloatOps.absf (F := Ideal) (φ := .f32) (x i)) ?_
  funext a
  apply Fin.ext
  match a with
  | ⟨0, _⟩ => rfl
  | ⟨1, _⟩ => rfl
  | ⟨2, _⟩ => rfl

theorem code_at (x i : FVec Ideal s .f32) (hb : FTy.bits .fp8e4m3 < FTy.bits .f32) (j : s.Idx) :
    truncf .fp8e4m3 (minimumf (broadcast s (Scalar.ofBits .f32 0x43E00000#32)) (maximumf (broadcast s (Scalar.ofBits .f32 0xC3E00000#32)) (mulf x i))) hb j
      = cd (x j) (i j) := rfl

/-- A value per group spread over the group. -/
theorem spread_at (i : FVec Ideal ⟨2, ![M, 14]⟩ .f32) (h1 : (⟨2, ![M, 14]⟩ : Shape).ShapeCasts ⟨3, ![M, 14, 1]⟩)
    (h2 : (⟨3, ![M, 14, 1]⟩ : Shape).Broadcasts ⟨3, ![M, 14, 128]⟩) (r : Fin M) (g : Fin 14) (k : Fin 128) :
    broadcastTo ⟨3, ![M, 14, 128]⟩ (shapeCast ⟨3, ![M, 14, 1]⟩ i h1) h2 (ix3 r g k) = i (ix2 r g) := by
  refine (broadcastTo_apply _ _ _ (ix3 r g (0 : Fin 1)) ?_).trans (shapeCast_apply _ _ _ _ ?_)
  · intro a
    match a with
    | ⟨0, _⟩ => exact (row_if r).symm
    | ⟨1, _⟩ => exact (if_neg (by decide : ¬ (14 : Nat) = 1)).symm
    | ⟨2, _⟩ => exact (if_pos rfl).symm
  · rw [Shape.rowMajor_val_three, Shape.rowMajor_val_two]
    show r.val * 14 + g.val = (r.val * 14 + g.val) * 1 + 0
    omega

/-- The contribution of group `g`: the product of its codes and weights, scaled by row and by column. -/
theorem term_at (s : FVec Ideal ⟨2, ![M, 14]⟩ .f32) (q : FVec Ideal ⟨3, ![M, 14, 128]⟩ .fp8e4m3) (g : Fin 14) (w : FVec Ideal ⟨3, ![1, 128, N]⟩ .fp8e4m3)
    (ws : FVec Ideal ⟨2, ![1, N]⟩ .f32) (hq : (⟨3, ![M, 14, 128]⟩ : Shape).Slices ![0, g.val, 0] ⟨3, ![M, 1, 128]⟩)
    (hq' : (⟨3, ![M, 1, 128]⟩ : Shape).ShapeCasts ⟨2, ![M, 128]⟩) (hw : (⟨3, ![1, 128, N]⟩ : Shape).ShapeCasts ⟨2, ![128, N]⟩)
    (hs : (⟨2, ![M, 14]⟩ : Shape).Slices ![0, g.val] ⟨2, ![M, 1]⟩) (hs1 : (⟨2, ![M, 1]⟩ : Shape).ShapeCasts ⟨1, ![M]⟩)
    (hs2 : (⟨1, ![M]⟩ : Shape).ShapeCasts ⟨2, ![M, 1]⟩) (hs3 : (⟨2, ![M, 1]⟩ : Shape).Broadcasts ⟨2, ![M, N]⟩)
    (hws1 : (⟨2, ![1, N]⟩ : Shape).ShapeCasts ⟨1, ![N]⟩) (hws2 : (⟨1, ![N]⟩ : Shape).ShapeCasts ⟨2, ![1, N]⟩)
    (hws3 : (⟨2, ![1, N]⟩ : Shape).Broadcasts ⟨2, ![M, N]⟩) (r : Fin M) (n : Fin N) :
    mulf (mulf (matmul (DotDims.plain M 128 N) none (shapeCast ⟨2, ![M, 128]⟩ (extractStridedSlice ⟨3, ![M, 1, 128]⟩ ![0, g.val, 0] q hq) hq')
          (shapeCast ⟨2, ![128, N]⟩ w hw) (constant ⟨2, ![M, N]⟩ .f32 0x00000000#32))
        (broadcastTo ⟨2, ![M, N]⟩ (shapeCast ⟨2, ![M, 1]⟩ (shapeCast ⟨1, ![M]⟩ (extractStridedSlice ⟨2, ![M, 1]⟩ ![0, g.val] s hs) hs1) hs2) hs3))
      (broadcastTo ⟨2, ![M, N]⟩ (shapeCast ⟨2, ![1, N]⟩ (shapeCast ⟨1, ![N]⟩ ws hws1) hws2) hws3) (ix2 r n) =
      ((∑ k : Fin 128, (q (ix3 r g k) : EReal) * (w (ix3 (0 : Fin 1) k n) : EReal)) * (s (ix2 r g) : EReal)) * (ws (ix2 (0 : Fin 1) n) : EReal) := by
  refine congrArg₂ (fun a b : EReal => a * b) (congrArg₂ (fun a b : EReal => a * b) ?_ ?_) ?_
  · refine (Ideal.matmul_plain_apply none _ _ _ r n).trans ?_
    refine (congrArg (fun z : EReal => z + _) Ideal.ofBits_zero_f32).trans ((zero_add _).trans ?_)
    refine Finset.sum_congr rfl fun k _ => congrArg₂ (fun a b : EReal => a * b) ?_ ?_
    · refine (shapeCast_apply _ _ _ (ix3 r (0 : Fin 1) k) ?_).trans (extractStridedSlice_apply _ _ _ _ _ ?_)
      · rw [Shape.rowMajor_val_three, Shape.rowMajor_val_two]
        show (r.val * 1 + 0) * 128 + k.val = r.val * 128 + k.val
        omega
      · intro a
        match a with
        | ⟨0, _⟩ => show r.val = 0 + r.val; omega
        | ⟨1, _⟩ => show g.val = g.val + 0; omega
        | ⟨2, _⟩ => show k.val = 0 + k.val; omega
    · refine shapeCast_apply _ _ _ _ ?_
      rw [Shape.rowMajor_val_three, Shape.rowMajor_val_two]
      show (0 * 128 + k.val) * N + n.val = k.val * N + n.val
      rw [Nat.zero_mul, Nat.zero_add]
  · refine (broadcastTo_apply _ _ _ (ix2 r (0 : Fin 1)) ?_).trans ?_
    · intro a
      match a with
      | ⟨0, _⟩ => exact (row_if r).symm
      | ⟨1, _⟩ => exact (if_pos rfl).symm
    · refine (shapeCast_apply _ _ _ (ix1 r) ?_).trans ((shapeCast_apply _ _ _ (ix2 r (0 : Fin 1)) ?_).trans (extractStridedSlice_apply _ _ _ _ _ ?_))
      · rw [Shape.rowMajor_val_one, Shape.rowMajor_val_two]
        show r.val = r.val * 1 + 0
        omega
      · rw [Shape.rowMajor_val_one, Shape.rowMajor_val_two]
        show r.val * 1 + 0 = r.val
        omega
      · intro a
        match a with
        | ⟨0, _⟩ => show r.val = 0 + r.val; omega
        | ⟨1, _⟩ => show g.val = g.val + 0; omega
  · refine (broadcastTo_apply _ _ _ (ix2 (0 : Fin 1) n) ?_).trans ?_
    · intro a
      match a with
      | ⟨0, _⟩ => exact (if_pos rfl).symm
      | ⟨1, _⟩ => exact (row_if n).symm
    · refine (shapeCast_apply _ _ _ (ix1 n) ?_).trans (shapeCast_apply _ _ _ _ ?_)
      · rw [Shape.rowMajor_val_one, Shape.rowMajor_val_two]
        show n.val = 0 * N + n.val
        rw [Nat.zero_mul, Nat.zero_add]
      · rw [Shape.rowMajor_val_one, Shape.rowMajor_val_two]
        show 0 * N + n.val = n.val
        rw [Nat.zero_mul, Nat.zero_add]

/-- A bias row spread over the rows. -/
theorem bias_at (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (n : Fin N) :
    broadcastTo ⟨2, ![M, N]⟩ (shapeCast ⟨2, ![1, N]⟩ b h1) h2 (ix2 r n) = b (ix1 n) := by
  refine (broadcastTo_apply _ _ _ (ix2 (0 : Fin 1) n) ?_).trans (shapeCast_apply _ _ _ _ ?_)
  · intro a
    match a with
    | ⟨0, _⟩ => exact (if_pos rfl).symm
    | ⟨1, _⟩ => exact (row_if n).symm
  · rw [Shape.rowMajor_val_one, Shape.rowMajor_val_two]
    show n.val = 0 * N + n.val
    rw [Nat.zero_mul, Nat.zero_add]

/-- Fourteen terms added up from zero, in order. -/
def rsum (t : Fin 14 → FVec Ideal s .f32) : FVec Ideal s .f32 :=
  (addf (addf (addf (addf (addf (addf (addf (addf (addf (addf (addf (addf (addf (addf (broadcast s (Scalar.ofBits .f32 0x00000000#32)) (t 0)) (t 1)) (t 2)) (t 3)) (t 4)) (t 5)) (t 6)) (t 7)) (t 8)) (t 9)) (t 10)) (t 11)) (t 12)) (t 13))

theorem rsum_at (t : Fin 14 → FVec Ideal s .f32) (j : s.Idx) : rsum t j = yAcc fun g => t g j := rfl

theorem out_at (a b : FVec Ideal s .f32) (hb : FTy.bits .bf16 < FTy.bits .f32) (j : s.Idx) :
    truncf .bf16 (addf a b) hb j = (a j + b j : EReal) := rfl

end Any

end Cert.Proof.R

end
-- ==== Proof.Bound.lean ====
module

public import proofs.«01_k».proof.Proof.RGen

@[expose] public section

set_option maxRecDepth 16384

noncomputable section

namespace Cert.Proof

open Idealize.ShloMosaic

/-- The largest finite bf16 number. -/
theorem big_val : FloatOps.ofBits (F := Ideal) .f32 0x7F7F0000#32 = ((255 * (2 : ℝ) ^ (120 : ℤ) : ℝ) : EReal) := by
  have ha : ((0x7F7F0000#32 : BitVec 32).extractLsb' 31 1 == 1#1) = false := by decide
  have hb : ((0x7F7F0000#32 : BitVec 32).extractLsb' 23 8).toNat = 254 := by decide
  have hc : ((0x7F7F0000#32 : BitVec 32).extractLsb' 0 23).toNat = 0x7F0000 := by decide
  rw [ofBits_f32]
  unfold Ideal.ieee
  simp only [ha, hb, hc]
  rw [if_neg (by norm_num), if_neg (by norm_num)]
  refine congrArg Real.toEReal ?_
  norm_num

/-- The f32 nearest to `1 / 448`. -/
theorem inv448_val : FloatOps.ofBits (F := Ideal) .f32 0x3B124925#32 = ((9586981 * (2 : ℝ) ^ (-32 : ℤ) : ℝ) : EReal) := by
  have ha : ((0x3B124925#32 : BitVec 32).extractLsb' 31 1 == 1#1) = false := by decide
  have hb : ((0x3B124925#32 : BitVec 32).extractLsb' 23 8).toNat = 118 := by decide
  have hc : ((0x3B124925#32 : BitVec 32).extractLsb' 0 23).toNat = 1198373 := by decide
  rw [ofBits_f32]
  unfold Ideal.ieee
  simp only [ha, hb, hc]
  rw [if_neg (by norm_num), if_neg (by norm_num)]
  refine congrArg Real.toEReal ?_
  norm_num

/-- The fold starts from minus infinity. -/
theorem ninf_val : FloatOps.ofBits (F := Ideal) .f32 0xFF800000#32 = (⊥ : EReal) := by
  have ha : ((0xFF800000#32 : BitVec 32).extractLsb' 31 1 == 1#1) = true := by decide
  have hb : ((0xFF800000#32 : BitVec 32).extractLsb' 23 8).toNat = 255 := by decide
  have hc : ((0xFF800000#32 : BitVec 32).extractLsb' 0 23).toNat = 0 := by decide
  rw [ofBits_f32]
  unfold Ideal.ieee
  simp only [ha, hb, hc]
  norm_num

theorem absf_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.mpr h)

theorem absf_of_nonneg (x : EReal) (h : 0 ≤ x) : FloatOps.absf (F := Ideal) (φ := .f32) x = x := by
  show max x (-x) = x
  exact max_eq_left ((EReal.neg_le_zero.mpr h).trans h)

theorem amax_nonneg (f : Fin 128 → EReal) : 0 ≤ amax f :=
  Finset.le_fold_max (0 : EReal) |>.mpr (Or.inr ⟨0, Finset.mem_univ _, absf_nonneg (f 0)⟩)

theorem amax_le (f : Fin 128 → EReal) (B : EReal) (h : ∀ k, FloatOps.absf (F := Ideal) (φ := .f32) (f k) ≤ B) : amax f ≤ B :=
  Finset.fold_max_le B |>.mpr ⟨by rw [ninf_val]; exact bot_le, fun k _ => h k⟩

/-- A group of finite entries: none is above the largest finite bf16 number in absolute value. -/
def Fits (f : Fin 128 → EReal) : Prop :=
  ∀ k, FloatOps.absf (F := Ideal) (φ := .f32) (f k) ≤ FloatOps.ofBits (F := Ideal) .f32 0x7F7F0000#32

theorem vOf_nonneg (f : Fin 128 → EReal) : 0 ≤ vOf f := by
  unfold vOf
  rw [inv448_val]
  exact mul_nonneg (amax_nonneg f) (EReal.coe_nonneg.mpr (by positivity))

theorem vOf_lt (f : Fin 128 → EReal) (h : Fits f) : vOf f < (((2 : ℝ) ^ (126 : ℤ) : ℝ) : EReal) := by
  have h1 : amax f ≤ ((255 * (2 : ℝ) ^ (120 : ℤ) : ℝ) : EReal) := amax_le f _ fun k => (h k).trans (le_of_eq big_val)
  unfold vOf
  rw [inv448_val]
  refine lt_of_le_of_lt (mul_le_mul_of_nonneg_right h1 (EReal.coe_nonneg.mpr (by positivity))) ?_
  rw [← EReal.coe_mul]
  exact EReal.coe_lt_coe_iff.mpr (by norm_num)

/-- On a group of finite entries the kernel's scale, built from bits, is the reference's. -/
theorem kS_eq_rS (f : Fin 128 → EReal) (h : Fits f) : kS f = rS f := by
  unfold kS rS
  rw [absf_of_nonneg _ (vOf_nonneg f)]
  exact (scale_inv_eq _ (vOf_nonneg f) (vOf_lt f h)).1

/-- On a group of finite entries the kernel's inverse scale, built from bits, is the reference's. -/
theorem kI_eq_rI (f : Fin 128 → EReal) (h : Fits f) : kI f = rI f := by
  unfold kI rI
  rw [absf_of_nonneg _ (vOf_nonneg f)]
  exact (scale_inv_eq _ (vOf_nonneg f) (vOf_lt f h)).2

end Cert.Proof

end
-- ==== Proof.KArr.lean ====
module

public import proofs.«01_k».proof.Proof.Spec
public import proofs.«01_k».proof.Proof.Gen.KernelIdeal.Value

@[expose] public section

set_option maxRecDepth 16384

noncomputable section

namespace Cert.Proof.K

open Idealize.ShloMosaic Idealize.ShloMosaic.TcCoe Cert.KernelIdeal Cert.KernelIdeal.Gen Cert.KernelIdeal.Value

variable (m : (ℓ : Loc nD τ sig) → Buf (Elt Ideal) ℓ)

/-- Row `r` of block `t`, among all rows. -/
def row (t : Fin cfg0.N) (r : Fin 256) : Fin 12288 := ⟨256 * t.val + r.val, by have h : t.val < 48 := t.isLt; omega⟩

theorem ix_0 : ∀ t : Fin cfg0.N, win0_0.index t (0 : Fin 2) = t.val ∧ win0_0.index t (1 : Fin 2) = 0 := (by decide +kernel : ∀ t : Fin grid0.N, _)
theorem ix_1 : ∀ t : Fin cfg0.N, win0_1.index t (0 : Fin 2) = 0 ∧ win0_1.index t (1 : Fin 2) = 0 := (by decide +kernel : ∀ t : Fin grid0.N, _)
theorem ix_2 : ∀ t : Fin cfg0.N, win0_2.index t (0 : Fin 2) = 0 ∧ win0_2.index t (1 : Fin 2) = 0 := (by decide +kernel : ∀ t : Fin grid0.N, _)
theorem ix_3 : ∀ t : Fin cfg0.N, win0_3.index t (0 : Fin 2) = 0 ∧ win0_3.index t (1 : Fin 2) = 0 := (by decide +kernel : ∀ t : Fin grid0.N, _)
theorem ix_4 : ∀ t : Fin cfg0.N, win0_4.index t (0 : Fin 2) = t.val ∧ win0_4.index t (1 : Fin 2) = 0 := (by decide +kernel : ∀ t : Fin grid0.N, _)
theorem ix_5 : ∀ t : Fin cfg0.N, win0_5.index t (0 : Fin 2) = t.val ∧ win0_5.index t (1 : Fin 2) = 0 := (by decide +kernel : ∀ t : Fin grid0.N, _)
theorem ix_6 : ∀ t : Fin cfg0.N, win0_6.index t (0 : Fin 2) = t.val ∧ win0_6.index t (1 : Fin 2) = 0 := (by decide +kernel : ∀ t : Fin grid0.N, _)

theorem emb0 (t : Fin cfg0.N) (r : Fin 256) (k : Fin 1792) : ((cfg0.win 0).blk t).view.emb (ix2 r k) = ix2 (row t r) k := by
  obtain ⟨e0, e1⟩ := ix_0 t
  funext a; apply Fin.ext
  match a with
  | ⟨0, _⟩ => show win0_0.index t (0 : Fin 2) * 256 + 1 * r.val = 256 * t.val + r.val; omega
  | ⟨1, _⟩ => show win0_0.index t (1 : Fin 2) * 1792 + 1 * k.val = k.val; omega

theorem emb1 (t : Fin cfg0.N) (k : Fin 1792) (c : Fin 13184) : ((cfg0.win 1).blk t).view.emb (ix2 k c) = ix2 k c := by
  obtain ⟨e0, e1⟩ := ix_1 t
  funext a; apply Fin.ext
  match a with
  | ⟨0, _⟩ => show win0_1.index t (0 : Fin 2) * 1792 + 1 * k.val = k.val; omega
  | ⟨1, _⟩ => show win0_1.index t (1 : Fin 2) * 13184 + 1 * c.val = c.val; omega

theorem emb2 (t : Fin cfg0.N) (g : Fin 14) (c : Fin 13184) : ((cfg0.win 2).blk t).view.emb (ix2 g c) = ix2 g c := by
  obtain ⟨e0, e1⟩ := ix_2 t
  funext a; apply Fin.ext
  match a with
  | ⟨0, _⟩ => show win0_2.index t (0 : Fin 2) * 14 + 1 * g.val = g.val; omega
  | ⟨1, _⟩ => show win0_2.index t (1 : Fin 2) * 13184 + 1 * c.val = c.val; omega

theorem emb3 (t : Fin cfg0.N) (z : Fin 1) (c : Fin 13184) : ((cfg0.win 3).blk t).view.emb (ix2 z c) = ix2 z c := by
  obtain ⟨e0, e1⟩ := ix_3 t
  funext a; apply Fin.ext
  match a with
  | ⟨0, _⟩ => show win0_3.index t (0 : Fin 2) * 1 + 1 * z.val = z.val; omega
  | ⟨1, _⟩ => show win0_3.index t (1 : Fin 2) * 13184 + 1 * c.val = c.val; omega

theorem emb4 (t : Fin cfg0.N) (r : Fin 256) (c : Fin 13184) : ((cfg0.win 4).blk t).view.emb (ix2 r c) = ix2 (row t r) c := by
  obtain ⟨e0, e1⟩ := ix_4 t
  funext a; apply Fin.ext
  match a with
  | ⟨0, _⟩ => show win0_4.index t (0 : Fin 2) * 256 + 1 * r.val = 256 * t.val + r.val; omega
  | ⟨1, _⟩ => show win0_4.index t (1 : Fin 2) * 13184 + 1 * c.val = c.val; omega

theorem emb5 (t : Fin cfg0.N) (r : Fin 256) (k : Fin 1792) : ((cfg0.win 5).blk t).view.emb (ix2 r k) = ix2 (row t r) k := by
  obtain ⟨e0, e1⟩ := ix_5 t
  funext a; apply Fin.ext
  match a with
  | ⟨0, _⟩ => show win0_5.index t (0 : Fin 2) * 256 + 1 * r.val = 256 * t.val + r.val; omega
  | ⟨1, _⟩ => show win0_5.index t (1 : Fin 2) * 1792 + 1 * k.val = k.val; omega

theorem emb6 (t : Fin cfg0.N) (r : Fin 256) (g : Fin 14) : ((cfg0.win 6).blk t).view.emb (ix2 r g) = ix2 (row t r) g := by
  obtain ⟨e0, e1⟩ := ix_6 t
  funext a; apply Fin.ext
  match a with
  | ⟨0, _⟩ => show win0_6.index t (0 : Fin 2) * 256 + 1 * r.val = 256 * t.val + r.val; omega
  | ⟨1, _⟩ => show win0_6.index t (1 : Fin 2) * 14 + 1 * g.val = g.val; omega

/-- The array of inputs, the weights, the spread weight scales and the bias, as the call finds them. -/
abbrev aX (c : Dev nD) : Vec Ideal S12288x1792 .bf16 := V m c main_v0
abbrev aW (c : Dev nD) : Vec Ideal S1792x13184 .fp8e4m3 := V m c main_arg1
abbrev aWs (c : Dev nD) : Vec Ideal S14x13184 .f32 := V m c main_v2
abbrev aB (c : Dev nD) : Vec Ideal S1x13184 .f32 := V m c main_v3

theorem blk0 (c : Dev nD) (t : Fin cfg0.N) (r : Fin 256) (k : Fin 1792) : iblk m c 0 t (ix2 r k) = aX m c (ix2 (row t r) k) :=
  congrArg (aX m c) (emb0 t r k)
theorem blk1 (c : Dev nD) (t : Fin cfg0.N) (k : Fin 1792) (n : Fin 13184) : iblk m c 1 t (ix2 k n) = aW m c (ix2 k n) :=
  congrArg (aW m c) (emb1 t k n)
theorem blk2 (c : Dev nD) (t : Fin cfg0.N) (g : Fin 14) (n : Fin 13184) : iblk m c 2 t (ix2 g n) = aWs m c (ix2 g n) :=
  congrArg (aWs m c) (emb2 t g n)
theorem blk3 (c : Dev nD) (t : Fin cfg0.N) (z : Fin 1) (n : Fin 13184) : iblk m c 3 t (ix2 z n) = aB m c (ix2 z n) :=
  congrArg (aB m c) (emb3 t z n)

/-- The whole arrays the kernel leaves, entry by entry. -/
def Y (c : Dev nD) : Vec Ideal S12288x13184 .bf16 := fun i =>
  yAt kS kI (fun k => aX m c (ix2 (i 0) k)) (fun k => aW m c (ix2 k (i 1))) (fun g => aWs m c (ix2 g (i 1))) (aB m c (ix2 (0 : Fin 1) (i 1)))
def Q (c : Dev nD) : Vec Ideal S12288x1792 .fp8e4m3 := fun i => codeAt kI (fun k => aX m c (ix2 (i 0) k)) (i 1)
def S (c : Dev nD) : Vec Ideal S12288x14 .f32 := fun i => kS (grow (fun k => aX m c (ix2 (i 0) k)) (i 1))

/-- What point `t` writes back is its block of the product. -/
theorem flush4 (c : Dev nD) (t : Fin cfg0.N) : (dats m 0 c).flushed 4 t = ((cfg0.win 4).blk t).view.read (Elt Ideal) (Y m c) := by
  rw [flushed4_A, out4_eq]
  funext j
  obtain ⟨r, n, rfl⟩ : ∃ (r : Fin 256) (n : Fin 13184), j = ix2 r n := ⟨j 0, j 1, eq_ix2 j⟩
  refine (Yblk_apply _ _ _ _ r n).trans (Eq.trans ?_ (congrArg (Y m c) (emb4 t r n)).symm)
  simp only [blk0, blk1, blk2, blk3]
  rfl

/-- What point `t` writes back is its block of the codes. -/
theorem flush5 (c : Dev nD) (t : Fin cfg0.N) : (dats m 0 c).flushed 5 t = ((cfg0.win 5).blk t).view.read (Elt Ideal) (Q m c) := by
  rw [flushed5_A, out5_eq]
  funext j
  obtain ⟨r, n, rfl⟩ : ∃ (r : Fin 256) (n : Fin 1792), j = ix2 r n := ⟨j 0, j 1, eq_ix2 j⟩
  refine (Qblk_apply _ r n).trans (Eq.trans ?_ (congrArg (Q m c) (emb5 t r n)).symm)
  simp only [blk0]
  rfl

/-- What point `t` writes back is its block of the scales. -/
theorem flush6 (c : Dev nD) (t : Fin cfg0.N) : (dats m 0 c).flushed 6 t = ((cfg0.win 6).blk t).view.read (Elt Ideal) (S m c) := by
  rw [flushed6_A, out6_eq]
  funext j
  obtain ⟨r, n, rfl⟩ : ∃ (r : Fin 256) (n : Fin 14), j = ix2 r n := ⟨j 0, j 1, eq_ix2 j⟩
  refine (Sblk_apply _ r n).trans (Eq.trans ?_ (congrArg (S m c) (emb6 t r n)).symm)
  simp only [blk0]
  rfl

/-- The point whose block holds row `i`, and the row's place in it. -/
def pt (i : Fin 12288) : Fin cfg0.N := ⟨i.val / 256, by show i.val / 256 < 48; omega⟩
theorem row_pt (i : Fin 12288) : row (pt i) (⟨i.val % 256, by omega⟩ : Fin 256) = i := Fin.ext (Nat.div_add_mod i.val 256)

theorem cover4 (i : S12288x13184.Idx) : ∃ t : Fin cfg0.N, (cfg0.win 4).flush t = true ∧ i ∈ ((cfg0.win 4).blk t).view.set := by
  refine ⟨pt (i 0), flush0_4 _, ?_⟩
  have e : ((cfg0.win 4).blk (pt (i 0))).view.emb (ix2 (⟨(i 0).val % 256, by omega⟩ : Fin 256) (i 1)) = i :=
    (emb4 (pt (i 0)) (⟨(i 0).val % 256, by omega⟩ : Fin 256) (i 1)).trans ((congrArg (fun r : Fin 12288 => ix2 r (i 1)) (row_pt (i 0))).trans (eq_ix2 i).symm)
  exact Eq.mp (congrArg (· ∈ ((cfg0.win 4).blk (pt (i 0))).view.set) e) (((cfg0.win 4).blk (pt (i 0))).view.emb_mem_set _)

theorem cover5 (i : S12288x1792.Idx) : ∃ t : Fin cfg0.N, (cfg0.win 5).flush t = true ∧ i ∈ ((cfg0.win 5).blk t).view.set := by
  refine ⟨pt (i 0), flush0_5 _, ?_⟩
  have e : ((cfg0.win 5).blk (pt (i 0))).view.emb (ix2 (⟨(i 0).val % 256, by omega⟩ : Fin 256) (i 1)) = i :=
    (emb5 (pt (i 0)) (⟨(i 0).val % 256, by omega⟩ : Fin 256) (i 1)).trans ((congrArg (fun r : Fin 12288 => ix2 r (i 1)) (row_pt (i 0))).trans (eq_ix2 i).symm)
  exact Eq.mp (congrArg (· ∈ ((cfg0.win 5).blk (pt (i 0))).view.set) e) (((cfg0.win 5).blk (pt (i 0))).view.emb_mem_set _)

theorem cover6 (i : S12288x14.Idx) : ∃ t : Fin cfg0.N, (cfg0.win 6).flush t = true ∧ i ∈ ((cfg0.win 6).blk t).view.set := by
  refine ⟨pt (i 0), flush0_6 _, ?_⟩
  have e : ((cfg0.win 6).blk (pt (i 0))).view.emb (ix2 (⟨(i 0).val % 256, by omega⟩ : Fin 256) (i 1)) = i :=
    (emb6 (pt (i 0)) (⟨(i 0).val % 256, by omega⟩ : Fin 256) (i 1)).trans ((congrArg (fun r : Fin 12288 => ix2 r (i 1)) (row_pt (i 0))).trans (eq_ix2 i).symm)
  exact Eq.mp (congrArg (· ∈ ((cfg0.win 6).blk (pt (i 0))).view.set) e) (((cfg0.win 6).blk (pt (i 0))).view.emb_mem_set _)

/-- The array of the product after the run. -/
theorem final4 (c : Dev nD) : (dats m 0 c).arrAt 4 cfg0.N = Y m c :=
  (dats m 0 c).arrAt_eq_of_cover 4 (Y m c) (fun t _ => flush4 m c t) cover4
/-- The array of codes after the run. -/
theorem final5 (c : Dev nD) : (dats m 0 c).arrAt 5 cfg0.N = Q m c :=
  (dats m 0 c).arrAt_eq_of_cover 5 (Q m c) (fun t _ => flush5 m c t) cover5
/-- The array of scales after the run. -/
theorem final6 (c : Dev nD) : (dats m 0 c).arrAt 6 cfg0.N = S m c :=
  (dats m 0 c).arrAt_eq_of_cover 6 (S m c) (fun t _ => flush6 m c t) cover6

end Cert.Proof.K

end
-- ==== Proof.KHost.lean ====
module

public import proofs.«01_k».proof.Proof.KArr

@[expose] public section

set_option maxRecDepth 16384

noncomputable section

namespace Cert.Proof.K

open Idealize.ShloMosaic Idealize.ShloMosaic.TcCoe Cert.KernelIdeal Cert.KernelIdeal.Gen Cert.KernelIdeal.Value

variable (m : (ℓ : Loc nD τ sig) → Buf (Elt Ideal) ℓ)

/-- The kernel's input array is the first argument with its two leading axes merged. -/
theorem x_eq (c : Dev nD) : aX m c = shapeCast S12288x1792 (m ((c : Thread nD τ).loc main_arg0)) shapeCasts_S3x4096x1792_S12288x1792 := rfl
/-- The kernel's weights are the second argument. -/
theorem w_eq (c : Dev nD) : aW m c = m ((c : Thread nD τ).loc main_arg1) := V_main_arg1 m c
/-- The kernel's weight scales are the third argument, each repeated over its 128 columns. -/
theorem ws_eq (c : Dev nD) : aWs m c = shapeCast S14x13184 (broadcastInDim S14x103x128 ![0, 1] bcast_S14x103_S14x103x128_0_1 (m ((c : Thread nD τ).loc main_arg2))) shapeCasts_S14x103x128_S14x13184 := rfl
/-- The kernel's bias row is the fourth argument. -/
theorem b_eq (c : Dev nD) : aB m c = shapeCast S1x13184 (m ((c : Thread nD τ).loc main_arg3)) shapeCasts_S13184_S1x13184 := rfl

end Cert.Proof.K

end
-- ==== Proof.RBody.lean ====
module

public import proofs.«01_k».proof.Proof.RGen
public import proofs.«01_k».proof.Proof.Gen.ReferenceIdeal.Value

@[expose] public section

set_option maxRecDepth 16384

noncomputable section

namespace Cert.Proof.R

open Idealize.ShloMosaic Cert.ReferenceIdeal Cert.ReferenceIdeal.Gen

theorem sl_q (g : Fin 14) : S12288x14x128.Slices ![0, g.val, 0] S12288x1x128 := ⟨rfl, fun a =>
  match a with
  | ⟨0, _⟩ => Nat.le_refl 12288
  | ⟨1, _⟩ => (by show g.val + 1 ≤ 14; omega)
  | ⟨2, _⟩ => Nat.le_refl 128⟩

theorem sl_s (g : Fin 14) : S12288x14.Slices ![0, g.val] S12288x1 := ⟨rfl, fun a =>
  match a with
  | ⟨0, _⟩ => Nat.le_refl 12288
  | ⟨1, _⟩ => (by show g.val + 1 ≤ 14; omega)⟩

theorem inb_w (g : Fin 14) : ∀ a : Fin S14x128x13184.rank, (![g.val, 0, 0] : Fin 3 → Nat) a + S1x128x13184.size a ≤ S14x128x13184.size a := fun a =>
  match a with
  | ⟨0, _⟩ => (by show g.val + 1 ≤ 14; omega)
  | ⟨1, _⟩ => Nat.le_refl 128
  | ⟨2, _⟩ => Nat.le_refl 13184

theorem inb_ws (g : Fin 14) : ∀ a : Fin S14x13184.rank, (![g.val, 0] : Fin 2 → Nat) a + S1x13184.size a ≤ S14x13184.size a := fun a =>
  match a with
  | ⟨0, _⟩ => (by show g.val + 1 ≤ 14; omega)
  | ⟨1, _⟩ => Nat.le_refl 13184

theorem pay2_eq (x : Vec Ideal S12288x14x128 .bf16) : k0_pay2 (F := Ideal) x = extf .f32 x bitsLt_bf16_f32 := by
  unfold k0_pay2
  rw [shapeCast_self]

theorem pay3_eq (x : Vec Ideal S12288x14x128 .bf16) : k0_pay3 (F := Ideal) x =
    expo (mulf (multiReduction .maximumf [2] S12288x14 (absf (extf .f32 x bitsLt_bf16_f32)) 0xFF800000#32 reduces_S12288x14x128_S12288x14 (.inl rfl) rfl)
      (broadcast S12288x14 (Scalar.ofBits .f32 0x3B124925#32))) := by
  unfold k0_pay3 expo
  rw [pay2_eq]

theorem pay5_eq (x : Vec Ideal S12288x14x128 .bf16) : k0_pay5 (F := Ideal) x =
    truncf .fp8e4m3 (minimumf (broadcast S12288x14x128 (Scalar.ofBits .f32 0x43E00000#32)) (maximumf (broadcast S12288x14x128 (Scalar.ofBits .f32 0xC3E00000#32))
      (mulf (extf .f32 x bitsLt_bf16_f32) (broadcastTo S12288x14x128 (shapeCast S12288x14x1 (exp2 (subf (broadcast S12288x14 (Scalar.ofBits .f32 0x00000000#32)) (k0_pay3 x)))
        shapeCasts_S12288x14_S12288x14x1) broadcasts_S12288x14x1_S12288x14x128)))) bitsLt_fp8e4m3_f32 := by
  unfold k0_pay5
  rw [pay2_eq]

/-- The exponent of a group, read at an entry. -/
theorem pay3_apply (x : Vec Ideal S12288x14x128 .bf16) (r : Fin 12288) (g : Fin 14) :
    k0_pay3 (F := Ideal) x (ix2 r g) = refExp (vOf fun k => x (ix3 r g k)) := by
  rw [pay3_eq, expo_at]
  exact congrArg refExp (vmax_at (M := 12288) x _ _ _ _ r g)

/-- The codes, read at an entry. -/
theorem pay5_apply (x : Vec Ideal S12288x14x128 .bf16) (r : Fin 12288) (g : Fin 14) (k : Fin 128) :
    k0_pay5 (F := Ideal) x (ix3 r g k) = cd (x (ix3 r g k)) (rI fun k => x (ix3 r g k)) := by
  rw [pay5_eq, code_at]
  refine congrArg (cd (x (ix3 r g k))) ?_
  refine (spread_at (M := 12288) _ _ _ r g k).trans ?_
  rw [neg_at, pay3_apply]
  rfl

/-- The scales, read at an entry. -/
theorem pay4_apply (x : Vec Ideal S12288x14x128 .bf16) (r : Fin 12288) (g : Fin 14) :
    k0_pay4 (F := Ideal) x (ix2 r g) = rS fun k => x (ix3 r g k) := by
  unfold k0_pay4 rS
  rw [exp2_at, pay3_apply]

/-- The contribution of group `g`: the product of its codes and weights, scaled by row and by column. -/
def rterm (s : FVec Ideal S12288x14 .f32) (q : FVec Ideal S12288x14x128 .fp8e4m3) (g : Fin 14) (w : FVec Ideal S1x128x13184 .fp8e4m3) (ws : FVec Ideal S1x13184 .f32) :
    FVec Ideal S12288x13184 .f32 :=
  mulf (mulf (matmul dot_S12288x128_S128x13184_S12288x13184_1_0_0_1_n_n none
      (shapeCast S12288x128 (extractStridedSlice S12288x1x128 ![0, g.val, 0] q (sl_q g)) shapeCasts_S12288x1x128_S12288x128)
      (shapeCast S128x13184 w shapeCasts_S1x128x13184_S128x13184) (constant S12288x13184 .f32 0x00000000#32))
    (broadcastTo S12288x13184 (shapeCast S12288x1 (shapeCast S12288 (extractStridedSlice S12288x1 ![0, g.val] s (sl_s g)) shapeCasts_S12288x1_S12288) shapeCasts_S12288_S12288x1) broadcasts_S12288x1_S12288x13184))
  (broadcastTo S12288x13184 (shapeCast S1x13184 (shapeCast S13184 ws shapeCasts_S1x13184_S13184) shapeCasts_S13184_S1x13184) broadcasts_S1x13184_S12288x13184)

theorem rterm_apply (s : FVec Ideal S12288x14 .f32) (q : FVec Ideal S12288x14x128 .fp8e4m3) (g : Fin 14) (w : FVec Ideal S1x128x13184 .fp8e4m3) (ws : FVec Ideal S1x13184 .f32)
    (r : Fin 12288) (n : Fin 13184) :
    rterm s q g w ws (ix2 r n) =
      ((∑ k : Fin 128, (q (ix3 r g k) : EReal) * (w (ix3 (0 : Fin 1) k n) : EReal)) * (s (ix2 r g) : EReal)) * (ws (ix2 (0 : Fin 1) n) : EReal) := by
  unfold rterm
  exact term_at (M := 12288) (N := 13184) s q g w ws _ _ _ _ _ _ _ _ _ _ r n

/-- The product with its bias. -/
def rY (x0 : Vec Ideal S12288x14x128 .bf16) (x1 : Vec Ideal S14x128x13184 .fp8e4m3) (x2 : Vec Ideal S14x13184 .f32) (x3 : Vec Ideal S13184 .f32) : FVec Ideal S12288x13184 .bf16 :=
  truncf .bf16 (addf (rsum fun g => rterm (k0_pay4 (View.ld x0 r0_0)) (k0_pay5 (View.ld x0 r0_0)) g
      (View.ld x1 (Rect.unit (s := S14x128x13184) ![g.val, 0, 0] S1x128x13184.size (inb_w g)))
      (View.ld x2 (Rect.unit (s := S14x13184) ![g.val, 0] S1x13184.size (inb_ws g))))
    (broadcastTo S12288x13184 (shapeCast S1x13184 (View.ld x3 r0_29) shapeCasts_S13184_S1x13184) broadcasts_S1x13184_S12288x13184)) bitsLt_bf16_f32

theorem zero1 : (![0] : Fin 1 → Nat) = fun _ => 0 := funext fun a => match a with | ⟨0, _⟩ => rfl
theorem zero3 : (![0, 0, 0] : Fin 3 → Nat) = fun _ => 0 := funext fun a => match a with | ⟨0, _⟩ => rfl | ⟨1, _⟩ => rfl | ⟨2, _⟩ => rfl

theorem rY_apply (x0 : Vec Ideal S12288x14x128 .bf16) (x1 : Vec Ideal S14x128x13184 .fp8e4m3) (x2 : Vec Ideal S14x13184 .f32) (x3 : Vec Ideal S13184 .f32)
    (r : Fin 12288) (n : Fin 13184) :
    rY x0 x1 x2 x3 (ix2 r n) =
      (yAcc fun g => ((∑ k : Fin 128, cd (x0 (ix3 r g k)) (rI fun k => x0 (ix3 r g k)) * (x1 (ix3 g k n) : EReal)) * (rS fun k => x0 (ix3 r g k))) * (x2 (ix2 g n) : EReal))
        + (x3 (ix1 n) : EReal) := by
  unfold rY
  rw [View.ld_unit_zero zero3, View.ld_unit_zero zero1]
  refine (out_at _ _ _ _).trans (congrArg₂ (fun a b : EReal => a + b) ((rsum_at _ _).trans (congrArg yAcc ?_)) (bias_at (M := 12288) (N := 13184) x3 _ _ r n))
  funext g
  refine (rterm_apply _ _ _ _ _ r n).trans ?_
  refine congrArg₂ (fun a b : EReal => a * b) (congrArg₂ (fun a b : EReal => a * b) (Finset.sum_congr rfl fun k _ => congrArg₂ (fun a b : EReal => a * b) (pay5_apply x0 r g k) ?_) (pay4_apply x0 r g)) ?_
  · refine congrArg x1 ?_
    funext a
    apply Fin.ext
    match a with
    | ⟨0, _⟩ => show g.val + 1 * 0 = g.val; omega
    | ⟨1, _⟩ => show 0 + 1 * k.val = k.val; omega
    | ⟨2, _⟩ => show 0 + 1 * n.val = n.val; omega
  · refine congrArg x2 ?_
    funext a
    apply Fin.ext
    match a with
    | ⟨0, _⟩ => show g.val + 1 * 0 = g.val; omega
    | ⟨1, _⟩ => show 0 + 1 * n.val = n.val; omega

end Cert.Proof.R

end
-- ==== Proof.ROut.lean ====
module

public import proofs.«01_k».proof.Proof.RBody

@[expose] public section

set_option maxRecDepth 16384

noncomputable section

namespace Cert.Proof.R

open Idealize.ShloMosaic Cert.ReferenceIdeal Cert.ReferenceIdeal.Gen

/-- What the reference leaves in the product. -/
theorem out4_eq (x0 : Vec Ideal S12288x14x128 .bf16) (x1 : Vec Ideal S14x128x13184 .fp8e4m3) (x2 : Vec Ideal S14x13184 .f32) (x3 : Vec Ideal S13184 .f32) :
    out0_4 (F := Ideal) x0 x1 x2 x3 = rY x0 x1 x2 x3 := by
  refine (rfl : out0_4 (F := Ideal) x0 x1 x2 x3 = View.canon [⟨r0_30, rY x0 x1 x2 x3⟩]).trans ?_
  exact View.canon_unit_zero zero2 _ _

/-- What the reference leaves in the codes. -/
theorem out5_apply (x0 : Vec Ideal S12288x14x128 .bf16) (x1 : Vec Ideal S14x128x13184 .fp8e4m3) (x2 : Vec Ideal S14x13184 .f32) (x3 : Vec Ideal S13184 .f32)
    (r : Fin 12288) (k : Fin 1792) :
    out0_5 (F := Ideal) x0 x1 x2 x3 (ix2 r k) = cd (x0 (ix3 r (grp k) (pos k))) (rI fun k' => x0 (ix3 r (grp k) k')) := by
  unfold_out out0_5
  rw [View.canon_unit_zero zero2, View.ld_unit_zero zero3, ← pay5_apply]
  unfold k0_pay1
  refine shapeCast_apply _ _ _ _ ?_
  rw [Shape.rowMajor_val_three, Shape.rowMajor_val_two]
  show (r.val * 14 + k.val / 128) * 128 + k.val % 128 = r.val * 1792 + k.val
  omega

/-- What the reference leaves in the scales. -/
theorem out6_apply (x0 : Vec Ideal S12288x14x128 .bf16) (x1 : Vec Ideal S14x128x13184 .fp8e4m3) (x2 : Vec Ideal S14x13184 .f32) (x3 : Vec Ideal S13184 .f32)
    (r : Fin 12288) (g : Fin 14) :
    out0_6 (F := Ideal) x0 x1 x2 x3 (ix2 r g) = rS fun k => x0 (ix3 r g k) := by
  unfold_out out0_6
  rw [View.canon_unit_zero zero2, View.ld_unit_zero zero3, pay4_apply]

end Cert.Proof.R

end
-- ==== Proof.RArr.lean ====
module

public import proofs.«01_k».proof.Proof.ROut

@[expose] public section

set_option maxRecDepth 16384

noncomputable section

namespace Cert.Proof.R

open Idealize.ShloMosaic Idealize.ShloMosaic.TcCoe Cert.ReferenceIdeal Cert.ReferenceIdeal.Gen Cert.ReferenceIdeal.Value

variable (m : (ℓ : Loc nD τ sig) → Buf (Elt Ideal) ℓ)

theorem ix_0 : ∀ t : Fin cfg0.N, win0_0.index t (0 : Fin 3) = 0 ∧ win0_0.index t (1 : Fin 3) = 0 ∧ win0_0.index t (2 : Fin 3) = 0 := (by decide +kernel : ∀ t : Fin grid0.N, _)
theorem ix_1 : ∀ t : Fin cfg0.N, win0_1.index t (0 : Fin 3) = 0 ∧ win0_1.index t (1 : Fin 3) = 0 ∧ win0_1.index t (2 : Fin 3) = 0 := (by decide +kernel : ∀ t : Fin grid0.N, _)
theorem ix_2 : ∀ t : Fin cfg0.N, win0_2.index t (0 : Fin 2) = 0 ∧ win0_2.index t (1 : Fin 2) = 0 := (by decide +kernel : ∀ t : Fin grid0.N, _)
theorem ix_3 : ∀ t : Fin cfg0.N, win0_3.index t (0 : Fin 1) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)
theorem ix_5 : ∀ t : Fin cfg0.N, win0_5.index t (0 : Fin 2) = 0 ∧ win0_5.index t (1 : Fin 2) = 0 := (by decide +kernel : ∀ t : Fin grid0.N, _)
theorem ix_6 : ∀ t : Fin cfg0.N, win0_6.index t (0 : Fin 2) = 0 ∧ win0_6.index t (1 : Fin 2) = 0 := (by decide +kernel : ∀ t : Fin grid0.N, _)

theorem emb0 (t : Fin cfg0.N) (r : Fin 12288) (g : Fin 14) (k : Fin 128) : ((cfg0.win 0).blk t).view.emb (ix3 r g k) = ix3 r g k := by
  obtain ⟨e0, e1, e2⟩ := ix_0 t
  funext a; apply Fin.ext
  match a with
  | ⟨0, _⟩ => show win0_0.index t (0 : Fin 3) * 12288 + 1 * r.val = r.val; omega
  | ⟨1, _⟩ => show win0_0.index t (1 : Fin 3) * 14 + 1 * g.val = g.val; omega
  | ⟨2, _⟩ => show win0_0.index t (2 : Fin 3) * 128 + 1 * k.val = k.val; omega

theorem emb1 (t : Fin cfg0.N) (g : Fin 14) (k : Fin 128) (n : Fin 13184) : ((cfg0.win 1).blk t).view.emb (ix3 g k n) = ix3 g k n := by
  obtain ⟨e0, e1, e2⟩ := ix_1 t
  funext a; apply Fin.ext
  match a with
  | ⟨0, _⟩ => show win0_1.index t (0 : Fin 3) * 14 + 1 * g.val = g.val; omega
  | ⟨1, _⟩ => show win0_1.index t (1 : Fin 3) * 128 + 1 * k.val = k.val; omega
  | ⟨2, _⟩ => show win0_1.index t (2 : Fin 3) * 13184 + 1 * n.val = n.val; omega

theorem emb2 (t : Fin cfg0.N) (g : Fin 14) (n : Fin 13184) : ((cfg0.win 2).blk t).view.emb (ix2 g n) = ix2 g n := by
  obtain ⟨e0, e1⟩ := ix_2 t
  funext a; apply Fin.ext
  match a with
  | ⟨0, _⟩ => show win0_2.index t (0 : Fin 2) * 14 + 1 * g.val = g.val; omega
  | ⟨1, _⟩ => show win0_2.index t (1 : Fin 2) * 13184 + 1 * n.val = n.val; omega

theorem emb3 (t : Fin cfg0.N) (n : Fin 13184) : ((cfg0.win 3).blk t).view.emb (ix1 n) = ix1 n := by
  have e0 := ix_3 t
  funext a; apply Fin.ext
  match a with
  | ⟨0, _⟩ => show win0_3.index t (0 : Fin 1) * 13184 + 1 * n.val = n.val; omega

theorem emb4 (t : Fin cfg0.N) (r : Fin 12288) (n : Fin 13184) : ((cfg0.win 4).blk t).view.emb (ix2 r n) = ix2 r n := by
  obtain ⟨e0, e1⟩ := ix_4 t
  funext a; apply Fin.ext
  match a with
  | ⟨0, _⟩ => show win0_4.index t (0 : Fin 2) * 12288 + 1 * r.val = r.val; omega
  | ⟨1, _⟩ => show win0_4.index t (1 : Fin 2) * 13184 + 1 * n.val = n.val; omega

theorem emb5 (t : Fin cfg0.N) (r : Fin 12288) (k : Fin 1792) : ((cfg0.win 5).blk t).view.emb (ix2 r k) = ix2 r k := by
  obtain ⟨e0, e1⟩ := ix_5 t
  funext a; apply Fin.ext
  match a with
  | ⟨0, _⟩ => show win0_5.index t (0 : Fin 2) * 12288 + 1 * r.val = r.val; omega
  | ⟨1, _⟩ => show win0_5.index t (1 : Fin 2) * 1792 + 1 * k.val = k.val; omega

theorem emb6 (t : Fin cfg0.N) (r : Fin 12288) (g : Fin 14) : ((cfg0.win 6).blk t).view.emb (ix2 r g) = ix2 r g := by
  obtain ⟨e0, e1⟩ := ix_6 t
  funext a; apply Fin.ext
  match a with
  | ⟨0, _⟩ => show win0_6.index t (0 : Fin 2) * 12288 + 1 * r.val = r.val; omega
  | ⟨1, _⟩ => show win0_6.index t (1 : Fin 2) * 14 + 1 * g.val = g.val; omega

/-- The inputs in groups, the weights in groups, the spread weight scales and the bias, as the call finds them. -/
abbrev aX (c : Dev nD) : Vec Ideal S12288x14x128 .bf16 := V m c main_v0
abbrev aW (c : Dev nD) : Vec Ideal S14x128x13184 .fp8e4m3 := V m c main_v1
abbrev aWs (c : Dev nD) : Vec Ideal S14x13184 .f32 := V m c main_v3
abbrev aB (c : Dev nD) : Vec Ideal S13184 .f32 := V m c main_arg3

theorem blk0 (c : Dev nD) (t : Fin cfg0.N) : iblk m c 0 t = aX m c := by
  funext j
  obtain ⟨r, g, k, rfl⟩ : ∃ (r : Fin 12288) (g : Fin 14) (k : Fin 128), j = ix3 r g k := ⟨j 0, j 1, j 2, eq_ix3 j⟩
  exact congrArg (aX m c) (emb0 t r g k)
theorem blk1 (c : Dev nD) (t : Fin cfg0.N) : iblk m c 1 t = aW m c := by
  funext j
  obtain ⟨r, g, k, rfl⟩ : ∃ (r : Fin 14) (g : Fin 128) (k : Fin 13184), j = ix3 r g k := ⟨j 0, j 1, j 2, eq_ix3 j⟩
  exact congrArg (aW m c) (emb1 t r g k)
theorem blk2 (c : Dev nD) (t : Fin cfg0.N) : iblk m c 2 t = aWs m c := by
  funext j
  obtain ⟨g, n, rfl⟩ : ∃ (g : Fin 14) (n : Fin 13184), j = ix2 g n := ⟨j 0, j 1, eq_ix2 j⟩
  exact congrArg (aWs m c) (emb2 t g n)
theorem blk3 (c : Dev nD) (t : Fin cfg0.N) : iblk m c 3 t = aB m c := by
  funext j
  obtain ⟨n, rfl⟩ : ∃ (n : Fin 13184), j = ix1 n := ⟨j 0, eq_ix1 j⟩
  exact congrArg (aB m c) (emb3 t n)

theorem cut4 (t : Fin cfg0.N) (G : Vec Ideal S12288x13184 .bf16) : (cfg0.win 4).cut (grid0.coords t) G = ((cfg0.win 4).blk t).view.read (Elt Ideal) G := by
  funext j
  obtain ⟨r, n, rfl⟩ : ∃ (r : Fin 12288) (n : Fin 13184), j = ix2 r n := ⟨j 0, j 1, eq_ix2 j⟩
  exact (congrArg G (emb4 t r n)).symm
theorem cut5 (t : Fin cfg0.N) (G : Vec Ideal S12288x1792 .fp8e4m3) : (cfg0.win 5).cut (grid0.coords t) G = ((cfg0.win 5).blk t).view.read (Elt Ideal) G := by
  funext j
  obtain ⟨r, n, rfl⟩ : ∃ (r : Fin 12288) (n : Fin 1792), j = ix2 r n := ⟨j 0, j 1, eq_ix2 j⟩
  exact (congrArg G (emb5 t r n)).symm
theorem cut6 (t : Fin cfg0.N) (G : Vec Ideal S12288x14 .f32) : (cfg0.win 6).cut (grid0.coords t) G = ((cfg0.win 6).blk t).view.read (Elt Ideal) G := by
  funext j
  obtain ⟨r, n, rfl⟩ : ∃ (r : Fin 12288) (n : Fin 14), j = ix2 r n := ⟨j 0, j 1, eq_ix2 j⟩
  exact (congrArg G (emb6 t r n)).symm

/-- The one point. -/
def pt : Fin cfg0.N := ⟨0, by show 0 < 1; omega⟩

theorem cover4 (i : S12288x13184.Idx) : ∃ t : Fin cfg0.N, (cfg0.win 4).flush t = true ∧ i ∈ ((cfg0.win 4).blk t).view.set := by
  refine ⟨pt, rfl, ?_⟩
  have e : ((cfg0.win 4).blk pt).view.emb (ix2 (i 0) (i 1)) = i := (emb4 pt (i 0) (i 1)).trans (eq_ix2 i).symm
  exact Eq.mp (congrArg (· ∈ ((cfg0.win 4).blk pt).view.set) e) (((cfg0.win 4).blk pt).view.emb_mem_set _)
theorem cover5 (i : S12288x1792.Idx) : ∃ t : Fin cfg0.N, (cfg0.win 5).flush t = true ∧ i ∈ ((cfg0.win 5).blk t).view.set := by
  refine ⟨pt, rfl, ?_⟩
  have e : ((cfg0.win 5).blk pt).view.emb (ix2 (i 0) (i 1)) = i := (emb5 pt (i 0) (i 1)).trans (eq_ix2 i).symm
  exact Eq.mp (congrArg (· ∈ ((cfg0.win 5).blk pt).view.set) e) (((cfg0.win 5).blk pt).view.emb_mem_set _)
theorem cover6 (i : S12288x14.Idx) : ∃ t : Fin cfg0.N, (cfg0.win 6).flush t = true ∧ i ∈ ((cfg0.win 6).blk t).view.set := by
  refine ⟨pt, rfl, ?_⟩
  have e : ((cfg0.win 6).blk pt).view.emb (ix2 (i 0) (i 1)) = i := (emb6 pt (i 0) (i 1)).trans (eq_ix2 i).symm
  exact Eq.mp (congrArg (· ∈ ((cfg0.win 6).blk pt).view.set) e) (((cfg0.win 6).blk pt).view.emb_mem_set _)

/-- The array of the product after the run. -/
theorem final4 (c : Dev nD) : (dats m 0 c).arrAt 4 cfg0.N = out0_4 (aX m c) (aW m c) (aWs m c) (aB m c) :=
  (dats m 0 c).arrAt_eq_of_cover 4 _ (fun t _ => by rw [flushed4, blk0, blk1, blk2, blk3]; exact cut4 t _) cover4
/-- The array of codes after the run. -/
theorem final5 (c : Dev nD) : (dats m 0 c).arrAt 5 cfg0.N = out0_5 (aX m c) (aW m c) (aWs m c) (aB m c) :=
  (dats m 0 c).arrAt_eq_of_cover 5 _ (fun t _ => by rw [flushed5, blk0, blk1, blk2, blk3]; exact cut5 t _) cover5
/-- The array of scales after the run. -/
theorem final6 (c : Dev nD) : (dats m 0 c).arrAt 6 cfg0.N = out0_6 (aX m c) (aW m c) (aWs m c) (aB m c) :=
  (dats m 0 c).arrAt_eq_of_cover 6 _ (fun t _ => by rw [flushed6, blk0, blk1, blk2, blk3]; exact cut6 t _) cover6

end Cert.Proof.R

end
-- ==== Proof.RHost.lean ====
module

public import proofs.«01_k».proof.Proof.RArr

@[expose] public section

set_option maxRecDepth 16384

noncomputable section

namespace Cert.Proof.R

open Idealize.ShloMosaic Idealize.ShloMosaic.TcCoe Cert.ReferenceIdeal Cert.ReferenceIdeal.Gen Cert.ReferenceIdeal.Value

variable (m : (ℓ : Loc nD τ sig) → Buf (Elt Ideal) ℓ)

/-- The reference's inputs are the first argument cut into groups. -/
theorem x_eq (c : Dev nD) : aX m c = shapeCast S12288x14x128 (m ((c : Thread nD τ).loc main_arg0)) shapeCasts_S3x4096x1792_S12288x14x128 := rfl
/-- The reference's weights are the second argument cut into groups. -/
theorem w_eq (c : Dev nD) : aW m c = shapeCast S14x128x13184 (m ((c : Thread nD τ).loc main_arg1)) shapeCasts_S1792x13184_S14x128x13184 := rfl
/-- The reference's weight scales are the third argument, each repeated over its 128 columns. -/
theorem ws_eq (c : Dev nD) : aWs m c = shapeCast S14x13184 (broadcastInDim S14x103x128 ![0, 1] bcast_S14x103_S14x103x128_0_1 (m ((c : Thread nD τ).loc main_arg2))) shapeCasts_S14x103x128_S14x13184 := rfl
/-- The reference's bias is the fourth argument. -/
theorem b_eq (c : Dev nD) : aB m c = m ((c : Thread nD τ).loc main_arg3) := V_main_arg3 m c

end Cert.Proof.R

end
-- ==== Proof.Equation.lean ====
module

public import proofs.«01_k».proof.Proof.Bound
public import proofs.«01_k».proof.Proof.KHost
public import proofs.«01_k».proof.Proof.RHost

@[expose] public section

set_option maxRecDepth 16384

noncomputable section

namespace Cert.Proof

open Idealize.ShloMosaic Idealize.ShloMosaic.TcCoe

/-- An entry of the product: the kernel's formula over a row is the reference's formula over the row cut into groups. -/
theorem y_eq (f w : Fin 1792 → EReal) (ws : Fin 14 → EReal) (b : EReal) (X W : Fin 14 → Fin 128 → EReal)
    (hX : ∀ g k, X g k = f (gcol g k)) (hW : ∀ g k, W g k = w (gcol g k)) (h : ∀ g, Fits (X g)) :
    yAt kS kI f w ws b = (yAcc fun g => ((∑ k : Fin 128, cd (X g k) (rI (X g)) * W g k) * rS (X g)) * ws g) + b := by
  obtain rfl : X = fun g => grow f g := funext fun g => funext fun k => hX g k
  obtain rfl : W = fun g k => w (gcol g k) := funext fun g => funext fun k => hW g k
  unfold yAt
  refine congrArg (fun F : Fin 14 → EReal => yAcc F + b) (funext fun g => ?_)
  rw [kS_eq_rS _ (h g)]
  refine congrArg (fun s : EReal => s * rS (grow f g) * ws g) (Finset.sum_congr rfl fun k _ => ?_)
  unfold codeAt
  rw [grp_gcol, kI_eq_rI _ (h g)]
  rfl

/-- A code: the kernel's formula is the reference's. -/
theorem q_eq (f : Fin 1792 → EReal) (X : Fin 14 → Fin 128 → EReal) (hX : ∀ g k, X g k = f (gcol g k)) (h : ∀ g, Fits (X g)) (k : Fin 1792) :
    codeAt kI f k = cd (X (grp k) (pos k)) (rI (X (grp k))) := by
  obtain rfl : X = fun g => grow f g := funext fun g => funext fun k => hX g k
  unfold codeAt
  rw [kI_eq_rI _ (h (grp k))]
  exact congrArg (fun j => cd (f j) (rI (grow f (grp k)))) (gcol_grp_pos k).symm

/-- A scale: the kernel's formula is the reference's. -/
theorem s_eq (f : Fin 1792 → EReal) (X : Fin 14 → Fin 128 → EReal) (hX : ∀ g k, X g k = f (gcol g k)) (h : ∀ g, Fits (X g)) (g : Fin 14) :
    kS (grow f g) = rS (X g) := by
  obtain rfl : X = fun g => grow f g := funext fun g => funext fun k => hX g k
  exact kS_eq_rS _ (h g)

/-- Where row `r` and column `k` of the merged input lie in the argument. -/
def src (r : Fin 12288) (k : Fin 1792) : (⟨3, ![3, 4096, 1792]⟩ : Shape).Idx :=
  ix3 ⟨r.val / 4096, by omega⟩ ⟨r.val % 4096, by omega⟩ k

theorem merged_apply {α : Type} (x : (⟨3, ![3, 4096, 1792]⟩ : Shape).Idx → α) (h : (⟨3, ![3, 4096, 1792]⟩ : Shape).ShapeCasts ⟨2, ![12288, 1792]⟩)
    (r : Fin 12288) (k : Fin 1792) : shapeCast ⟨2, ![12288, 1792]⟩ x h (ix2 r k) = x (src r k) := by
  refine shapeCast_apply x h _ _ ?_
  rw [Shape.rowMajor_val_two, Shape.rowMajor_val_three]
  show (r.val / 4096 * 4096 + r.val % 4096) * 1792 + k.val = r.val * 1792 + k.val
  omega

theorem grouped_apply {α : Type} (x : (⟨3, ![3, 4096, 1792]⟩ : Shape).Idx → α) (h : (⟨3, ![3, 4096, 1792]⟩ : Shape).ShapeCasts ⟨3, ![12288, 14, 128]⟩)
    (r : Fin 12288) (g : Fin 14) (k : Fin 128) : shapeCast ⟨3, ![12288, 14, 128]⟩ x h (ix3 r g k) = x (src r (gcol g k)) := by
  refine shapeCast_apply x h _ _ ?_
  rw [Shape.rowMajor_val_three, Shape.rowMajor_val_three]
  show (r.val / 4096 * 4096 + r.val % 4096) * 1792 + (128 * g.val + k.val) = (r.val * 14 + g.val) * 128 + k.val
  omega

theorem weights_apply {α : Type} (w : (⟨2, ![1792, 13184]⟩ : Shape).Idx → α) (h : (⟨2, ![1792, 13184]⟩ : Shape).ShapeCasts ⟨3, ![14, 128, 13184]⟩)
    (g : Fin 14) (k : Fin 128) (n : Fin 13184) : shapeCast ⟨3, ![14, 128, 13184]⟩ w h (ix3 g k n) = w (ix2 (gcol g k) n) := by
  refine shapeCast_apply w h _ _ ?_
  rw [Shape.rowMajor_val_two, Shape.rowMajor_val_three]
  show (128 * g.val + k.val) * 13184 + n.val = (g.val * 128 + k.val) * 13184 + n.val
  omega

theorem bias_apply {α : Type} (b : (⟨1, ![13184]⟩ : Shape).Idx → α) (h : (⟨1, ![13184]⟩ : Shape).ShapeCasts ⟨2, ![1, 13184]⟩)
    (n : Fin 13184) : shapeCast ⟨2, ![1, 13184]⟩ b h (ix2 (0 : Fin 1) n) = b (ix1 n) := by
  refine shapeCast_apply b h _ _ ?_
  rw [Shape.rowMajor_val_one, Shape.rowMajor_val_two]
  show n.val = 0 * 13184 + n.val
  omega

section Arrays

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The input argument of the kernel. -/
abbrev xArg (c : Dev Cert.KernelIdeal.nD) : (⟨3, ![3, 4096, 1792]⟩ : Shape).Idx → EReal :=
  m ((c.tc : Thread Cert.KernelIdeal.nD Cert.KernelIdeal.τ).loc Cert.KernelIdeal.main_arg0)

/-- The two memories hold the same arguments on device `c`. -/
structure Agree (c : Dev Cert.KernelIdeal.nD) : Prop where
  x : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  w : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ws : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  b : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m'} {c : Dev Cert.KernelIdeal.nD}

theorem kx_at (r : Fin 12288) (k : Fin 1792) : K.aX m c (ix2 r k) = xArg m c (src r k) :=
  (congrFun (K.x_eq m c) (ix2 r k)).trans (merged_apply (xArg m c) _ r k)

theorem rx_at (h : Agree m m' c) (r : Fin 12288) (g : Fin 14) (k : Fin 128) : R.aX m' c (ix3 r g k) = xArg m c (src r (gcol g k)) :=
  (congrFun (R.x_eq m' c) (ix3 r g k)).trans ((grouped_apply _ _ r g k).trans (congrFun h.x _))

theorem x_at (h : Agree m m' c) (r : Fin 12288) (g : Fin 14) (k : Fin 128) : R.aX m' c (ix3 r g k) = K.aX m c (ix2 r (gcol g k)) :=
  (rx_at h r g k).trans (kx_at r (gcol g k)).symm

theorem w_at (h : Agree m m' c) (g : Fin 14) (k : Fin 128) (n : Fin 13184) : R.aW m' c (ix3 g k n) = K.aW m c (ix2 (gcol g k) n) :=
  (congrFun (R.w_eq m' c) (ix3 g k n)).trans ((weights_apply _ _ g k n).trans ((congrFun h.w _).trans (congrFun (K.w_eq m c) _).symm))

theorem ws_same (h : Agree m m' c) : R.aWs m' c = K.aWs m c := by
  rw [R.ws_eq, K.ws_eq, h.ws]

theorem b_at (h : Agree m m' c) (n : Fin 13184) : R.aB m' c (ix1 n) = K.aB m c (ix2 (0 : Fin 1) n) :=
  (congrFun (R.b_eq m' c) (ix1 n)).trans ((congrFun h.b _).trans ((congrFun (K.b_eq m c) _).trans (bias_apply _ _ n)).symm)

/-- Every input is at most the largest finite bf16 number in absolute value. -/
def XFits (m : (ℓ : Loc Cert.KernelIdeal.nD Cert.KernelIdeal.τ Cert.KernelIdeal.sig) → Buf (Elt Ideal) ℓ) (c : Dev Cert.KernelIdeal.nD) : Prop :=
  ∀ i, FloatOps.absf (F := Ideal) (φ := .f32) (xArg m c i) ≤ FloatOps.ofBits (F := Ideal) .f32 0x7F7F0000#32

theorem fits_at (h : Agree m m' c) (hx : XFits m c) (r : Fin 12288) (g : Fin 14) : Fits fun k => R.aX m' c (ix3 r g k) := by
  intro k
  show FloatOps.absf (F := Ideal) (φ := .f32) (R.aX m' c (ix3 r g k)) ≤ _
  rw [rx_at h r g k]
  exact hx _

/-- The reference's product is the kernel's. -/
theorem Y_eq (h : Agree m m' c) (hx : XFits m c) :
    Cert.ReferenceIdeal.Gen.out0_4 (F := Ideal) (R.aX m' c) (R.aW m' c) (R.aWs m' c) (R.aB m' c) = K.Y m c := by
  rw [R.out4_eq]
  funext i
  obtain ⟨r, n, rfl⟩ : ∃ (r : Fin 12288) (n : Fin 13184), i = ix2 r n := ⟨i 0, i 1, eq_ix2 i⟩
  refine (R.rY_apply _ _ _ _ r n).trans ?_
  rw [ws_same h, b_at h n]
  exact (y_eq (fun k => K.aX m c (ix2 r k)) (fun k => K.aW m c (ix2 k n)) _ _ (fun g k => R.aX m' c (ix3 r g k)) (fun g k => R.aW m' c (ix3 g k n))
    (fun g k => x_at h r g k) (fun g k => w_at h g k n) (fits_at h hx r)).symm

/-- The reference's codes are the kernel's. -/
theorem Q_eq (h : Agree m m' c) (hx : XFits m c) :
    Cert.ReferenceIdeal.Gen.out0_5 (F := Ideal) (R.aX m' c) (R.aW m' c) (R.aWs m' c) (R.aB m' c) = K.Q m c := by
  funext i
  obtain ⟨r, n, rfl⟩ : ∃ (r : Fin 12288) (n : Fin 1792), i = ix2 r n := ⟨i 0, i 1, eq_ix2 i⟩
  exact (R.out5_apply _ _ _ _ r n).trans
    (q_eq (fun k => K.aX m c (ix2 r k)) (fun g k => R.aX m' c (ix3 r g k)) (fun g k => x_at h r g k) (fits_at h hx r) n).symm

/-- The reference's scales are the kernel's. -/
theorem S_eq (h : Agree m m' c) (hx : XFits m c) :
    Cert.ReferenceIdeal.Gen.out0_6 (F := Ideal) (R.aX m' c) (R.aW m' c) (R.aWs m' c) (R.aB m' c) = K.S m c := by
  funext i
  obtain ⟨r, n, rfl⟩ : ∃ (r : Fin 12288) (n : Fin 14), i = ix2 r n := ⟨i 0, i 1, eq_ix2 i⟩
  exact (R.out6_apply _ _ _ _ r n).trans
    (s_eq (fun k => K.aX m c (ix2 r k)) (fun g k => R.aX m' c (ix3 r g k)) (fun g k => x_at h r g k) (fits_at h hx r) n).symm

end Arrays

end Cert.Proof

end
-- ==== Proof.Pre.lean ====
module

public import proofs.«01_k».proof.Defs
public import proofs.«01_k».proof.Proof.Equation
public import Idealize.ShloMosaic.Lib.WordCmp

@[expose] public section

set_option maxRecDepth 16384

noncomputable section

namespace Cert.Proof

open Idealize.ShloMosaic Idealize.ShloMosaic.TcCoe

/-- The side conditions of the precondition's printed function. -/
theorem preFacts : Cert.Pre_finite.Facts where
  bitsLt_bf16_f32 := by decide
  bcast_S_S3x4096x1792 := ⟨fun a => a.elim0, fun a => a.elim0⟩

/-- The precondition says that every input is at most the largest finite bf16 number in absolute value. -/
theorem xFits_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : XFits m c := by
  intro i
  have e := congrFun (h c) i
  exact (Idealize.ShloMosaic.WordCmp.ofBool_decide_eq_one_iff _).mp e

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- From memories with the same arguments, inputs finite, kernel and reference both end with the kernel's three whole arrays:
    the product, the codes and the scales; the arguments are unchanged. -/
theorem values : Cert.algebraic_KernelIdeal_ReferenceIdeal_pre_finite (hKernelIdeal := Cert.KernelIdeal.Gen.facts)
    (hReferenceIdeal := Cert.ReferenceIdeal.Gen.facts) (hPre_finite := preFacts) := by
  intro m g m' g' hp ha
  have hx : ∀ c, XFits m c := xFits_of_pre m hp
  have ag : ∀ c, Agree m m' c := fun c => ⟨(ha c).1, (ha c).2.1, (ha c).2.2.1, (ha c).2.2.2⟩
  refine ⟨K.Y m, K.Q m, K.S m, ?_, ?_⟩
  · exact (θ_run Cert.KernelIdeal.defs _ _).mono (fun r h c =>
      ⟨(h c).1.trans (K.final4 m c), (h c).2.1.trans (K.final5 m c), (h c).2.2.1.trans (K.final6 m c), (h c).2.2.2⟩)
      (Cert.KernelIdeal.Value.run_blocks m g)
  · exact (θ_run Cert.ReferenceIdeal.defs _ _).mono (fun r h c =>
      ⟨(h c).1.trans ((R.final4 m' c).trans (Y_eq (ag c) (hx c))),
        (h c).2.1.trans ((R.final5 m' c).trans (Q_eq (ag c) (hx c))),
        (h c).2.2.1.trans ((R.final6 m' c).trans (S_eq (ag c) (hx c))), (h c).2.2.2⟩)
      (Cert.ReferenceIdeal.Value.run_blocks m' g')

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, values⟩

end Cert.Proof

end
